-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)

variable [Facts]

def fn {F : FTy → Type} [FloatOps F] (main_arg0 : FVec F S2048x512 .bf16) (main_arg1 : FVec F S512x32 .bf16) (main_arg2 : IVec S2048x2 32) (main_arg3 : FVec F S4x512x1024 .bf16) : IVec S2048x2 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .bf16 := Host.absf main_arg1
  let main_cst_0 : FVec F S_ .bf16 := constant S_ .bf16 0x7F80#16
  let main_v5 : FVec F S512x32 .bf16 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_v11 : IVec S2048x2 1 := broadcastInDim S2048x2 ![] bcast_S_S2048x2 main_v8
  let main_v12 : IVec S2048x2 1 := andi main_v11 main_v10
  let main_c_3 : IVec S_ 32 := constantI S_ 32 32#32
  let main_v13 : IVec S2048x2 32 := broadcastInDim S2048x2 ![] bcast_S_S2048x2 main_c_3
  let main_v14 : IVec S2048x2 1 := cmpi .slt main_arg2 main_v13
  let main_v15 : IVec S2048x2 1 := andi main_v12 main_v14
  main_v15
-- ==== Pre_finite_and_routed_ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)

variable [Facts]

def fn {F : FTy → Type} [FloatOps F] (main_arg0 : FVec F S2048x512 .bf16) (main_arg1 : FVec F S512x32 .bf16) (main_arg2 : IVec S2048x2 32) (main_arg3 : FVec F S32x512x1024 .bf16) : IVec S2048x2 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .bf16 := Host.absf main_arg1
  let main_cst_0 : FVec F S_ .bf16 := constant S_ .bf16 0x7F80#16
  let main_v5 : FVec F S512x32 .bf16 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_v11 : IVec S2048x2 1 := broadcastInDim S2048x2 ![] bcast_S_S2048x2 main_v8
  let main_v12 : IVec S2048x2 1 := andi main_v11 main_v10
  let main_c_3 : IVec S_ 32 := constantI S_ 32 32#32
  let main_v13 : IVec S2048x2 32 := broadcastInDim S2048x2 ![] bcast_S_S2048x2 main_c_3
  let main_v14 : IVec S2048x2 1 := cmpi .slt main_arg2 main_v13
  let main_v15 : IVec S2048x2 1 := andi main_v12 main_v14
  main_v15
-- ==== Kernel.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S256x1024 : Shape := ⟨2, ![256, 1024]⟩
abbrev S2048x4 : Shape := ⟨2, ![2048, 4]⟩
abbrev S128x1024 : Shape := ⟨2, ![128, 1024]⟩
abbrev S7x128x1024 : Shape := ⟨3, ![7, 128, 1024]⟩
abbrev S7 : Shape := ⟨1, ![7]⟩
abbrev S2048x32 : Shape := ⟨2, ![2048, 32]⟩
abbrev S2048 : Shape := ⟨1, ![2048]⟩
abbrev S2048x1 : Shape := ⟨2, ![2048, 1]⟩
abbrev S128x512 : Shape := ⟨2, ![128, 512]⟩
abbrev S128x1 : Shape := ⟨2, ![128, 1]⟩
abbrev S1x512x1024 : Shape := ⟨3, ![1, 512, 1024]⟩
abbrev S512x1024 : Shape := ⟨2, ![512, 1024]⟩
abbrev S_ : Shape := ⟨0, ![]⟩
abbrev S1 : Shape := ⟨1, ![1]⟩
abbrev S1x128x1024 : Shape := ⟨3, ![1, 128, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S4x512x1024, .bf16⟩
  | .hbm, ⟨4, _⟩ => ⟨S256x1024, .f32⟩
  | .local _ .vmem, ⟨0, _⟩ => ⟨S2048x512, .bf16⟩
  | .local _ .vmem, ⟨1, _⟩ => ⟨S512x32, .bf16⟩
  | .local _ .vmem, ⟨2, _⟩ => ⟨S2048x2, .i32⟩
  | .local _ .vmem, ⟨3, _⟩ => ⟨S4x512x1024, .bf16⟩
  | .local _ .vmem, ⟨4, _⟩ => ⟨S256x1024, .f32⟩
  | .local _ .vmem, ⟨5, _⟩ => ⟨S2048x4, .f32⟩
  | .local _ .vmem, ⟨6, _⟩ => ⟨S128x1024, .bf16⟩
  | .local _ .vmem, ⟨7, _⟩ => ⟨S128x1024, .bf16⟩
  | .local _ .vmem, ⟨8, _⟩ => ⟨S7x128x1024, .bf16⟩
  | .local _ .vmem, ⟨9, _⟩ => ⟨S7x128x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_off1 (d0 : Dev nD) (c7_i32 : BitVec 32) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c7_i32
  let c8_i32_35 : BitVec 32 := 8#32
  let v99 : BitVec 32 := Scalar.remsi v98 c8_i32_35
  let c256_i32 : BitVec 32 := 256#32
  let v100 : BitVec 32 := Scalar.muli v99 c256_i32
  let v101 : BitVec 32 := Scalar.addi v100 c0_i32_36
  let v102 : Index := Scalar.indexCast v101
  let c0_37 : Index := 0#32
  ![v102.toNat, 0]
def k0_off1_at (r : Fin 9) : BitVec 32 × BitVec 32 :=
  if r.val < 4 then
    if r.val < 2 then
      if r.val < 1 then
        (7#32, 0#32)
      else
        (1#32, 128#32)
    else
      if r.val < 3 then
        (6#32, 0#32)
      else
        (5#32, 0#32)
  else
    if r.val < 6 then
      if r.val < 5 then
        (4#32, 0#32)
      else
        (3#32, 0#32)
    else
      if r.val < 7 then
        (2#32, 0#32)
      else
        if r.val < 8 then
          (1#32, 0#32)
        else
          (0#32, 0#32)
def k0_off2 (d0 : Dev nD) (c7_i32 : BitVec 32) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c7_i32
  let c8_i32_35 : BitVec 32 := 8#32
  let v99 : BitVec 32 := Scalar.remsi v98 c8_i32_35
  let c256_i32 : BitVec 32 := 256#32
  let v100 : BitVec 32 := Scalar.muli v99 c256_i32
  let v101 : BitVec 32 := Scalar.addi v100 c0_i32_36
  let v106 : Index := Scalar.indexCast v101
  let c0_39 : Index := 0#32
  ![v106.toNat, 0]
def k0_off2_at (r : Fin 9) : BitVec 32 × BitVec 32 :=
  if r.val < 4 then
    if r.val < 2 then
      if r.val < 1 then
        (7#32, 0#32)
      else
        (1#32, 128#32)
    else
      if r.val < 3 then
        (6#32, 0#32)
      else
        (5#32, 0#32)
  else
    if r.val < 6 then
      if r.val < 5 then
        (4#32, 0#32)
      else
        (3#32, 0#32)
    else
      if r.val < 7 then
        (2#32, 0#32)
      else
        if r.val < 8 then
          (1#32, 0#32)
        else
          (0#32, 0#32)
def k0_off3 (d0 : Dev nD) (c7_i32 : BitVec 32) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c7_i32
  let c8_i32_35 : BitVec 32 := 8#32
  let v99 : BitVec 32 := Scalar.remsi v98 c8_i32_35
  let c256_i32 : BitVec 32 := 256#32
  let v100 : BitVec 32 := Scalar.muli v99 c256_i32
  let v101 : BitVec 32 := Scalar.addi v100 c0_i32_36
  let v116 : Index := Scalar.indexCast v101
  let c1_44 : Index := 1#32
  ![v116.toNat, 1]
def k0_off3_at (r : Fin 9) : BitVec 32 × BitVec 32 :=
  if r.val < 4 then
    if r.val < 2 then
      if r.val < 1 then
        (7#32, 0#32)
      else
        (1#32, 128#32)
    else
      if r.val < 3 then
        (6#32, 0#32)
      else
        (5#32, 0#32)
  else
    if r.val < 6 then
      if r.val < 5 then
        (4#32, 0#32)
      else
        (3#32, 0#32)
    else
      if r.val < 7 then
        (2#32, 0#32)
      else
        if r.val < 8 then
          (1#32, 0#32)
        else
          (0#32, 0#32)
def k0_off4 (d0 : Dev nD) (c7_i32 : BitVec 32) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c7_i32
  let c8_i32_35 : BitVec 32 := 8#32
  let v99 : BitVec 32 := Scalar.remsi v98 c8_i32_35
  let c256_i32 : BitVec 32 := 256#32
  let v100 : BitVec 32 := Scalar.muli v99 c256_i32
  let v101 : BitVec 32 := Scalar.addi v100 c0_i32_36
  let v126 : Index := Scalar.indexCast v101
  let c2_49 : Index := 2#32
  ![v126.toNat, 2]
def k0_off4_at (r : Fin 9) : BitVec 32 × BitVec 32 :=
  if r.val < 4 then
    if r.val < 2 then
      if r.val < 1 then
        (7#32, 0#32)
      else
        (1#32, 128#32)
    else
      if r.val < 3 then
        (6#32, 0#32)
      else
        (5#32, 0#32)
  else
    if r.val < 6 then
      if r.val < 5 then
        (4#32, 0#32)
      else
        (3#32, 0#32)
    else
      if r.val < 7 then
        (2#32, 0#32)
      else
        if r.val < 8 then
          (1#32, 0#32)
        else
          (0#32, 0#32)
def k0_off5 (d0 : Dev nD) (c7_i32 : BitVec 32) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.addi v2 c7_i32
  let c8_i32_35 : BitVec 32 := 8#32
  let v99 : BitVec 32 := Scalar.remsi v98 c8_i32_35
  let c256_i32 : BitVec 32 := 256#32
  let v100 : BitVec 32 := Scalar.muli v99 c256_i32
  let v101 : BitVec 32 := Scalar.addi v100 c0_i32_36
  let v136 : Index := Scalar.indexCast v101
  let c3_54 : Index := 3#32
  ![v136.toNat, 3]
def k0_off5_at (r : Fin 9) : BitVec 32 × BitVec 32 :=
  if r.val < 4 then
    if r.val < 2 then
      if r.val < 1 then
        (7#32, 0#32)
      else
        (1#32, 128#32)
    else
      if r.val < 3 then
        (6#32, 0#32)
      else
        (5#32, 0#32)
  else
    if r.val < 6 then
      if r.val < 5 then
        (4#32, 0#32)
      else
        (3#32, 0#32)
    else
      if r.val < 7 then
        (2#32, 0#32)
      else
        if r.val < 8 then
          (1#32, 0#32)
        else
          (0#32, 0#32)
def k0_dev1 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_89 : BitVec 32 := 1#32
  let v203 : BitVec 32 := Scalar.muli v5 c1_i32_89
  let v204 : BitVec 32 := Scalar.addi c0_i32_90 v203
  v204.toNat
def k0_dev2 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_92 : BitVec 32 := 1#32
  let v205 : BitVec 32 := Scalar.muli v7 c1_i32_92
  let v206 : BitVec 32 := Scalar.addi c0_i32_93 v205
  v206.toNat
def k0_dev3 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_102 : BitVec 32 := 1#32
  let v212 : BitVec 32 := Scalar.muli v7 c1_i32_102
  let v213 : BitVec 32 := Scalar.addi c0_i32_103 v212
  v213.toNat
def k0_dev4 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_109 : BitVec 32 := 1#32
  let v220 : BitVec 32 := Scalar.muli v5 c1_i32_109
  let v221 : BitVec 32 := Scalar.addi c0_i32_110 v220
  v221.toNat
def k0_off6 (d0 : Dev nD) (c0_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.addi v2 c0_i32_96
  let c2_i32_97 : BitVec 32 := 2#32
  let v210 : BitVec 32 := Scalar.addi v209 c2_i32_97
  let c8_i32_98 : BitVec 32 := 8#32
  let v211 : BitVec 32 := Scalar.remsi v210 c8_i32_98
  let c256_i32_137 : BitVec 32 := 256#32
  let v274 : BitVec 32 := Scalar.muli v211 c256_i32_137
  let c128_i32_138 : BitVec 32 := 128#32
  let v275 : BitVec 32 := Scalar.addi v274 c128_i32_138
  let v276 : Index := Scalar.indexCast v275
  let c0_139 : Index := 0#32
  ![v276.toNat, 0]
def k0_off7 (d0 : Dev nD) (c0_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.addi v2 c0_i32_96
  let c2_i32_97 : BitVec 32 := 2#32
  let v210 : BitVec 32 := Scalar.addi v209 c2_i32_97
  let c8_i32_98 : BitVec 32 := 8#32
  let v211 : BitVec 32 := Scalar.remsi v210 c8_i32_98
  let c256_i32_137 : BitVec 32 := 256#32
  let v274 : BitVec 32 := Scalar.muli v211 c256_i32_137
  let c128_i32_138 : BitVec 32 := 128#32
  let v275 : BitVec 32 := Scalar.addi v274 c128_i32_138
  let v280 : Index := Scalar.indexCast v275
  let c0_141 : Index := 0#32
  ![v280.toNat, 0]
def k0_off8 (d0 : Dev nD) (c0_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.addi v2 c0_i32_96
  let c2_i32_97 : BitVec 32 := 2#32
  let v210 : BitVec 32 := Scalar.addi v209 c2_i32_97
  let c8_i32_98 : BitVec 32 := 8#32
  let v211 : BitVec 32 := Scalar.remsi v210 c8_i32_98
  let c256_i32_137 : BitVec 32 := 256#32
  let v274 : BitVec 32 := Scalar.muli v211 c256_i32_137
  let c128_i32_138 : BitVec 32 := 128#32
  let v275 : BitVec 32 := Scalar.addi v274 c128_i32_138
  let v290 : Index := Scalar.indexCast v275
  let c1_146 : Index := 1#32
  ![v290.toNat, 1]
def k0_off9 (d0 : Dev nD) (c0_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.addi v2 c0_i32_96
  let c2_i32_97 : BitVec 32 := 2#32
  let v210 : BitVec 32 := Scalar.addi v209 c2_i32_97
  let c8_i32_98 : BitVec 32 := 8#32
  let v211 : BitVec 32 := Scalar.remsi v210 c8_i32_98
  let c256_i32_137 : BitVec 32 := 256#32
  let v274 : BitVec 32 := Scalar.muli v211 c256_i32_137
  let c128_i32_138 : BitVec 32 := 128#32
  let v275 : BitVec 32 := Scalar.addi v274 c128_i32_138
  let v300 : Index := Scalar.indexCast v275
  let c2_151 : Index := 2#32
  ![v300.toNat, 2]
def k0_off10 (d0 : Dev nD) (c0_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : BitVec 32 := Scalar.addi v2 c0_i32_96
  let c2_i32_97 : BitVec 32 := 2#32
  let v210 : BitVec 32 := Scalar.addi v209 c2_i32_97
  let c8_i32_98 : BitVec 32 := 8#32
  let v211 : BitVec 32 := Scalar.remsi v210 c8_i32_98
  let c256_i32_137 : BitVec 32 := 256#32
  let v274 : BitVec 32 := Scalar.muli v211 c256_i32_137
  let c128_i32_138 : BitVec 32 := 128#32
  let v275 : BitVec 32 := Scalar.addi v274 c128_i32_138
  let v310 : Index := Scalar.indexCast v275
  let c3_156 : Index := 3#32
  ![v310.toNat, 3]
def k0_dev5 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_204 : BitVec 32 := 1#32
  let v361 : BitVec 32 := Scalar.muli v7 c1_i32_204
  let v362 : BitVec 32 := Scalar.addi c0_i32_205 v361
  v362.toNat
def k0_dev6 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_211 : BitVec 32 := 1#32
  let v369 : BitVec 32 := Scalar.muli v5 c1_i32_211
  let v370 : BitVec 32 := Scalar.addi c0_i32_212 v369
  v370.toNat
def k0_dev7 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_307 : BitVec 32 := 1#32
  let v510 : BitVec 32 := Scalar.muli v7 c1_i32_307
  let v511 : BitVec 32 := Scalar.addi c0_i32_308 v510
  v511.toNat
def k0_dev8 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_314 : BitVec 32 := 1#32
  let v518 : BitVec 32 := Scalar.muli v5 c1_i32_314
  let v519 : BitVec 32 := Scalar.addi c0_i32_315 v518
  v519.toNat
def k0_dev9 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_410 : BitVec 32 := 1#32
  let v659 : BitVec 32 := Scalar.muli v7 c1_i32_410
  let v660 : BitVec 32 := Scalar.addi c0_i32_411 v659
  v660.toNat
def k0_dev10 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_417 : BitVec 32 := 1#32
  let v667 : BitVec 32 := Scalar.muli v5 c1_i32_417
  let v668 : BitVec 32 := Scalar.addi c0_i32_418 v667
  v668.toNat
def k0_dev11 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_513 : BitVec 32 := 1#32
  let v808 : BitVec 32 := Scalar.muli v7 c1_i32_513
  let v809 : BitVec 32 := Scalar.addi c0_i32_514 v808
  v809.toNat
def k0_dev12 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_520 : BitVec 32 := 1#32
  let v816 : BitVec 32 := Scalar.muli v5 c1_i32_520
  let v817 : BitVec 32 := Scalar.addi c0_i32_521 v816
  v817.toNat
def k0_dev13 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_615 : BitVec 32 := 1#32
  let v957 : BitVec 32 := Scalar.muli v7 c1_i32_615
  let v958 : BitVec 32 := Scalar.addi c0_i32_616 v957
  v958.toNat
def k0_dev14 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_622 : BitVec 32 := 1#32
  let v965 : BitVec 32 := Scalar.muli v5 c1_i32_622
  let v966 : BitVec 32 := Scalar.addi c0_i32_623 v965
  v966.toNat
def k0_dev15 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_717 : BitVec 32 := 1#32
  let v1106 : BitVec 32 := Scalar.muli v7 c1_i32_717
  let v1107 : BitVec 32 := Scalar.addi c0_i32_718 v1106
  v1107.toNat
def k0_dev16 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_724 : BitVec 32 := 1#32
  let v1114 : BitVec 32 := Scalar.muli v5 c1_i32_724
  let v1115 : BitVec 32 := Scalar.addi c0_i32_725 v1114
  v1115.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S32x512x1024, .bf16⟩
  | .hbm, ⟨4, _⟩ => ⟨S2048x512, .f32⟩
  | .hbm, ⟨5, _⟩ => ⟨S512x32, .f32⟩
  | .hbm, ⟨6, _⟩ => ⟨S2048x32, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x32, .f32⟩
  | .hbm, ⟨11, _⟩ => ⟨S2048x32, .f32⟩
  | .hbm, ⟨12, _⟩ => ⟨S2048x32, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x32, .f32⟩
  | .hbm, ⟨17, _⟩ => ⟨S2048x32, .f32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S2048x1, .i32⟩
  | .hbm, ⟨38, _⟩ => ⟨S2048x1, .i32⟩
  | .hbm, ⟨39, _⟩ => ⟨S2048x2, .i32⟩
  | .hbm, ⟨40, _⟩ => ⟨S2048, .f32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048x1, .i32⟩
  | .hbm, ⟨56, _⟩ => ⟨S2048x1, .i32⟩
  | .hbm, ⟨57, _⟩ => ⟨S2048x2, .i32⟩
  | .hbm, ⟨58, _⟩ => ⟨S2048, .f32⟩
  | .hbm, ⟨59, _⟩ => ⟨S2048, .f32⟩
  | .hbm, ⟨60, _⟩ => ⟨S32x512x1024, .f32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048x1, .i32⟩
  | .hbm, ⟨69, _⟩ => ⟨S2048x512x1024, .f32⟩
  | .hbm, ⟨70, _⟩ => ⟨S2048x1024, .f32⟩
  | .hbm, ⟨71, _⟩ => ⟨S_, .i32⟩
  | .hbm, ⟨72, _⟩ => ⟨S2048, .i32⟩
  | .hbm, ⟨73, _⟩ => ⟨S2048, .i1⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S2048, .i32⟩
  | .hbm, ⟨78, _⟩ => ⟨S2048x1, .i32⟩
  | .hbm, ⟨79, _⟩ => ⟨S2048x512x1024, .f32⟩
  | .hbm, ⟨80, _⟩ => ⟨S2048x1024, .f32⟩
  | .hbm, ⟨81, _⟩ => ⟨S2048, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S2048, .f32⟩
  | .hbm, ⟨86, _⟩ => ⟨S2048x1, .f32⟩
  | .hbm, ⟨87, _⟩ => ⟨S2048x1024, .f32⟩
  | .hbm, ⟨88, _⟩ => ⟨S2048x1024, .f32⟩
  | .hbm, ⟨89, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.KernelIdeal.Contents.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-!
What every buffer of the kernel holds, device by device, as plain functions of the devices' inputs.

Half of a block of 256 token rows travels around the ring of eight devices in each direction: the top half upwards
(direction `false`), the bottom half downwards (direction `true`). At every stop a device adds the contribution of its
own four experts and rounds the sum to bf16. `sent J d c s` is what device `c` sends in direction `d` at step `s`.
-/

@[expose] public section

set_option maxRecDepth 16384

noncomputable section

namespace Cert.KernelIdeal.MoeRing

open Cert.KernelIdeal Cert.KernelIdeal.Gen
open Idealize.ShloMosaic Idealize.ShloMosaic.TcCoe

variable {F : FTy → Type} [FloatOps F]

/-! ## The ring -/

set_option backward.proofsInPublic true in
/-- The neighbour above. -/
def nxt (c : Dev nD) : Dev nD := ⟨(c.val + 1) % 8, Nat.mod_lt _ (by decide)⟩
set_option backward.proofsInPublic true in
/-- The neighbour below. -/
def prv (c : Dev nD) : Dev nD := ⟨(c.val + 7) % 8, Nat.mod_lt _ (by decide)⟩

/-- Whom a device sends to in direction `d`. -/
def tgt : Bool → Dev nD → Dev nD | false => nxt | true => prv
/-- Whom a device hears from in direction `d`. -/
def frm : Bool → Dev nD → Dev nD | false => prv | true => nxt

theorem frm_tgt (d : Bool) (c : Dev nD) : frm d (tgt d c) = c := by revert d c; decide
theorem tgt_frm (d : Bool) (c : Dev nD) : tgt d (frm d c) = c := by revert d c; decide

/-- Going one step in direction `d` permutes the devices. -/
def around (d : Bool) : Dev nD ≃ Dev nD := ⟨tgt d, frm d, frm_tgt d, tgt_frm d⟩

/-! ## One half of a block, with one device's experts -/

/-- The devices' inputs as the kernel sees them: tokens, router weights, the two expert choices, the device's four experts. -/
structure Inputs (F : FTy → Type) where
  x : Dev nD → Vec F S2048x512 .bf16
  rw : Dev nD → Vec F S512x32 .bf16
  idx : Dev nD → Vec F S2048x2 .i32
  ew : Dev nD → Vec F S4x512x1024 .bf16

/-- First row of a half: the top half (`false`) at 0, the bottom half (`true`) at 128. -/
def base : Bool → ℕ | false => 0 | true => 128

theorem rows_inb (k : Fin 8) (b : Bool) : ∀ a, (![256 * k.val + base b, 0] : Fin 2 → ℕ) a + S128x512.size a ≤ S2048x512.size a := by
  revert k b; decide
theorem col_inb (k : Fin 8) (b : Bool) (e : Fin 4) : ∀ a, (![256 * k.val + base b, e.val] : Fin 2 → ℕ) a + S128x1.size a ≤ S2048x4.size a := by
  revert k b e; decide
theorem expert_inb (e : Fin 4) : ∀ a, (![e.val, 0, 0] : Fin 3 → ℕ) a + S1x512x1024.size a ≤ S4x512x1024.size a := by
  revert e; decide

/-- The token rows of half `b` of block `k`. -/
def rowsX (X : Vec F S2048x512 .bf16) (k : Fin 8) (b : Bool) : Vec F S128x512 .bf16 :=
  (Memref.whole cc0_stg0_0).view.readAt (Elt F) (Rect.unit (s := S2048x512) ![256 * k.val + base b, 0] S128x512.size (rows_inb k b)).toLoadRect X
/-- The combine weights of those rows for local expert `e`. -/
def colW (W : Vec F S2048x4 .f32) (k : Fin 8) (b : Bool) (e : Fin 4) : Vec F S128x1 .f32 :=
  (Memref.whole cc0_scratch0).view.readAt (Elt F) (Rect.unit (s := S2048x4) ![256 * k.val + base b, e.val] S128x1.size (col_inb k b e)).toLoadRect W
/-- Local expert `e`'s matrix. -/
def expertW (E : Vec F S4x512x1024 .bf16) (e : Fin 4) : Vec F S1x512x1024 .bf16 :=
  (Memref.whole cc0_stg3_0).view.readAt (Elt F) (Rect.unit (s := S4x512x1024) ![e.val, 0, 0] S1x512x1024.size (expert_inb e)).toLoadRect E

/-- Rows scaled by their weights, rounded, times one expert's matrix. -/
def scaledDot (xc : FVec F S128x512 .bf16) (w : Vec F S128x1 .f32) (e : Vec F S1x512x1024 .bf16) : FVec F S128x1024 .f32 :=
  matmul dot_S128x512_S512x1024_S128x1024_1_0_0_1_n_n none
    (truncf .bf16 (mulf (extf .f32 xc bitsLt_bf16_f32) (broadcastTo S128x512 w broadcasts_S128x1_S128x512)) bitsLt_bf16_f32)
    (shapeCast S512x1024 e shapeCasts_S1x512x1024_S512x1024) (constant S128x1024 .f32 0x00000000#32)

/-- The four experts' contributions summed in order, from zero. -/
def fourDots (xr : Vec F S128x512 .bf16) (w0 : Vec F S128x1 .f32) (e0 : Vec F S1x512x1024 .bf16) (w1 : Vec F S128x1 .f32) (e1 : Vec F S1x512x1024 .bf16)
    (w2 : Vec F S128x1 .f32) (e2 : Vec F S1x512x1024 .bf16) (w3 : Vec F S128x1 .f32) (e3 : Vec F S1x512x1024 .bf16) : FVec F S128x1024 .f32 :=
  addf (addf (addf (addf (broadcast S128x1024 (Scalar.ofBits .f32 0x00000000#32 : F .f32))
    (scaledDot (shapeCast S128x512 xr shapeCasts_S128x512_S128x512) w0 e0))
    (scaledDot (shapeCast S128x512 xr shapeCasts_S128x512_S128x512) w1 e1))
    (scaledDot (shapeCast S128x512 xr shapeCasts_S128x512_S128x512) w2 e2))
    (scaledDot (shapeCast S128x512 xr shapeCasts_S128x512_S128x512) w3 e3)

/-- A device's contribution to half `b` of block `k`, from its tokens, its combine weights and its experts. -/
def halfOf (X : Vec F S2048x512 .bf16) (W : Vec F S2048x4 .f32) (E : Vec F S4x512x1024 .bf16) (k : Fin 8) (b : Bool) : FVec F S128x1024 .f32 :=
  fourDots (rowsX X k b) (colW W k b 0) (expertW E 0) (colW W k b 1) (expertW E 1) (colW W k b 2) (expertW E 2) (colW W k b 3) (expertW E 3)

/-- The same with the rectangles at offsets given otherwise. -/
theorem halfOf_at (X : Vec F S2048x512 .bf16) (W : Vec F S2048x4 .f32) (E : Vec F S4x512x1024 .bf16) (k : Fin 8) (b : Bool)
    (o o0 o1 o2 o3 : Fin 2 → ℕ) (h : ∀ a, o a + S128x512.size a ≤ S2048x512.size a) (h0 : ∀ a, o0 a + S128x1.size a ≤ S2048x4.size a)
    (h1 : ∀ a, o1 a + S128x1.size a ≤ S2048x4.size a) (h2 : ∀ a, o2 a + S128x1.size a ≤ S2048x4.size a) (h3 : ∀ a, o3 a + S128x1.size a ≤ S2048x4.size a)
    (e : o = ![256 * k.val + base b, 0]) (e0 : o0 = ![256 * k.val + base b, 0]) (e1 : o1 = ![256 * k.val + base b, 1])
    (e2 : o2 = ![256 * k.val + base b, 2]) (e3 : o3 = ![256 * k.val + base b, 3]) :
    fourDots ((Memref.whole cc0_stg0_0).view.readAt (Elt F) (Rect.unit (s := S2048x512) o S128x512.size h).toLoadRect X)
      ((Memref.whole cc0_scratch0).view.readAt (Elt F) (Rect.unit (s := S2048x4) o0 S128x1.size h0).toLoadRect W) (expertW E 0)
      ((Memref.whole cc0_scratch0).view.readAt (Elt F) (Rect.unit (s := S2048x4) o1 S128x1.size h1).toLoadRect W) (expertW E 1)
      ((Memref.whole cc0_scratch0).view.readAt (Elt F) (Rect.unit (s := S2048x4) o2 S128x1.size h2).toLoadRect W) (expertW E 2)
      ((Memref.whole cc0_scratch0).view.readAt (Elt F) (Rect.unit (s := S2048x4) o3 S128x1.size h3).toLoadRect W) (expertW E 3)
      = halfOf X W E k b := by
  subst e e0 e1 e2 e3; rfl

/-! ## The combine weights -/

/-- The device's position along the ring, as the kernel's index word. -/
def word (c : Dev nD) : BitVec 32 := Scalar.remsi (Scalar.divsi (Dev.word c) 1#32) 8#32

/-- The first choice's column, and the second's. -/
def choice0 (IX : Vec F S2048x2 .i32) : Vec F S2048x1 .i32 :=
  (Memref.whole cc0_stg2_0).view.readAt (Elt F) (Rect.unit (s := S2048x2) ![0, 0] S2048x1.size inb_S2048x2_S2048x1_0_0).toLoadRect IX
def choice1 (IX : Vec F S2048x2 .i32) : Vec F S2048x1 .i32 :=
  (Memref.whole cc0_stg2_0).view.readAt (Elt F) (Rect.unit (s := S2048x2) ![0, 1] S2048x1.size inb_S2048x2_S2048x1_0_1).toLoadRect IX
/-- The tokens and the router's weights as the kernel reads them whole. -/
def allX (X : Vec F S2048x512 .bf16) : Vec F S2048x512 .bf16 :=
  (Memref.whole cc0_stg0_0).view.readAt (Elt F) (Rect.unit (s := S2048x512) ![0, 0] S2048x512.size inb_S2048x512_S2048x512_0_0).toLoadRect X
def allRW (RW : Vec F S512x32 .bf16) : Vec F S512x32 .bf16 :=
  (Memref.whole cc0_stg1_0).view.readAt (Elt F) (Rect.unit (s := S512x32) ![0, 0] S512x32.size inb_S512x32_S512x32_0_0).toLoadRect RW

section Weights
variable (c : Dev nD) (X : Vec F S2048x512 .bf16) (RW : Vec F S512x32 .bf16) (IX : Vec F S2048x2 .i32)

/-- The router's scores gathered at the two choices, before they are normalised. -/
def gate0 : FVec F S2048x1 .f32 := k0_pay6 (allX X) (allRW RW) (choice0 IX)
def gate1 : FVec F S2048x32 .f32 := k0_pay7 (allX X) (allRW RW) (choice1 IX)

/-- The column of combine weights of local expert 0, 1, 2, 3. -/
def weight0 : FVec F S2048x1 .f32 := k0_pay12 (word c) (k0_pay4 (choice0 IX)) (k0_pay5 (choice1 IX)) (gate0 X RW IX) (gate1 X RW IX)
def weight1 : FVec F S2048x1 .f32 := k0_pay13 (word c) (k0_pay4 (choice0 IX)) (k0_pay5 (choice1 IX)) (gate0 X RW IX) (gate1 X RW IX)
def weight2 : FVec F S2048x1 .f32 :=
  k0_pay17 (k0_pay11 (gate0 X RW IX) (gate1 X RW IX)) (k0_pay14 (word c) (k0_pay4 (choice0 IX)) (gate0 X RW IX) (gate1 X RW IX))
    (k0_pay15 (word c) (k0_pay5 (choice1 IX))) (k0_pay16 (F := F))
def weight3 : FVec F S2048x1 .f32 :=
  k0_pay18 (word c) (k0_pay4 (choice0 IX)) (k0_pay5 (choice1 IX)) (k0_pay10 (gate0 X RW IX) (gate1 X RW IX)) (k0_pay11 (gate0 X RW IX) (gate1 X RW IX))

/-- The device's table of combine weights, 2048 tokens by its four experts. -/
def weightsOf : Vec F S2048x4 .f32 :=
  (Memref.whole cc0_scratch0).view.writes (Elt F) (Memref.whole cc0_scratch0).view.junk
    [⟨Rect.unit (s := S2048x4) ![0, 3] S2048x1.size inb_S2048x4_S2048x1_0_3, weight3 c X RW IX⟩,
     ⟨Rect.unit (s := S2048x4) ![0, 2] S2048x1.size inb_S2048x4_S2048x1_0_2, weight2 c X RW IX⟩,
     ⟨Rect.unit (s := S2048x4) ![0, 1] S2048x1.size inb_S2048x4_S2048x1_0_1, weight1 c X RW IX⟩,
     ⟨Rect.unit (s := S2048x4) ![0, 0] S2048x1.size inb_S2048x4_S2048x1_0_0, weight0 c X RW IX⟩]

end Weights

/-! ## What travels -/

variable (J : Inputs F)

/-- Device `c`'s table of combine weights. -/
def weights (c : Dev nD) : Vec F S2048x4 .f32 := weightsOf c (J.x c) (J.rw c) (J.idx c)
/-- Device `c`'s contribution to half `b` of block `k`. -/
def half (c : Dev nD) (k : Fin 8) (b : Bool) : FVec F S128x1024 .f32 := halfOf (J.x c) (weights J c) (J.ew c) k b

set_option backward.proofsInPublic true in
/-- The block whose half device `c` works on as its `s`-th in direction `d`: the last is its own. -/
def blk : Bool → Dev nD → ℕ → Fin 8
  | false, c, s => ⟨(c.val + 15 - s) % 8, Nat.mod_lt _ (by decide)⟩
  | true, c, s => ⟨(c.val + 1 + s) % 8, Nat.mod_lt _ (by decide)⟩

/-- What device `c` sends in direction `d` at step `s`. -/
def sent (d : Bool) : ℕ → Dev nD → FVec F S128x1024 .bf16
  | 0, c => truncf .bf16 (half J c (blk d c 0) d) bitsLt_bf16_f32
  | s + 1, c => truncf .bf16 (addf (extf .f32 (sent d s (frm d c)) bitsLt_bf16_f32) (half J c (blk d c (s + 1)) d)) bitsLt_bf16_f32

/-- What device `c` holds of its own block's half once the last transfer has landed. -/
def total (d : Bool) (c : Dev nD) : FVec F S128x1024 .f32 :=
  addf (extf .f32 (sent J d 6 (frm d c)) bitsLt_bf16_f32) (half J c (blk d c 7) d)

/-- Device `c`'s block of the result: the top half from below, the bottom half from above. -/
def outOf (c : Dev nD) : Vec F S256x1024 .f32 :=
  (Memref.whole cc0_stg4_0).view.writes (Elt F) (Memref.whole cc0_stg4_0).view.junk
    [⟨Rect.unit (s := S256x1024) ![128, 0] S128x1024.size inb_S256x1024_S128x1024_128_0, total J true c⟩,
     ⟨Rect.unit (s := S256x1024) ![0, 0] S128x1024.size inb_S256x1024_S128x1024_0_0, total J false c⟩]

/-! ## The kernel's offsets -/

theorem off1_eq (c : Dev nD) (r : Fin 9) : k0_off1 c (k0_off1_at r).1 (k0_off1_at r).2
    = ![256 * (if r = 1 then blk true c 0 else if r = 0 then blk false c 0 else blk false c (r.val - 1)).val + base (r = 1), 0] := by
  revert c r; decide +kernel
theorem off2_eq (c : Dev nD) (r : Fin 9) : k0_off2 c (k0_off2_at r).1 (k0_off2_at r).2
    = ![256 * (if r = 1 then blk true c 0 else if r = 0 then blk false c 0 else blk false c (r.val - 1)).val + base (r = 1), 0] := by
  revert c r; decide +kernel
theorem off3_eq (c : Dev nD) (r : Fin 9) : k0_off3 c (k0_off3_at r).1 (k0_off3_at r).2
    = ![256 * (if r = 1 then blk true c 0 else if r = 0 then blk false c 0 else blk false c (r.val - 1)).val + base (r = 1), 1] := by
  revert c r; decide +kernel
theorem off4_eq (c : Dev nD) (r : Fin 9) : k0_off4 c (k0_off4_at r).1 (k0_off4_at r).2
    = ![256 * (if r = 1 then blk true c 0 else if r = 0 then blk false c 0 else blk false c (r.val - 1)).val + base (r = 1), 2] := by
  revert c r; decide +kernel
theorem off5_eq (c : Dev nD) (r : Fin 9) : k0_off5 c (k0_off5_at r).1 (k0_off5_at r).2
    = ![256 * (if r = 1 then blk true c 0 else if r = 0 then blk false c 0 else blk false c (r.val - 1)).val + base (r = 1), 3] := by
  revert c r; decide +kernel

/-- The contribution the kernel computes at its literal row offsets: the first two halves (`r = 0`, `1`), then the one of
    every step upwards (`r = s + 2`). -/
theorem half_up (c : Dev nD) (W : Vec F S2048x4 .f32) (X : Vec F S2048x512 .bf16) (E : Vec F S4x512x1024 .bf16) (r : Fin 9) :
    fourDots ((Memref.whole cc0_stg0_0).view.readAt (Elt F) (Rect.unit (s := S2048x512) (k0_off1 c (k0_off1_at r).1 (k0_off1_at r).2) S128x512.size (k0_off1_inb c r)).toLoadRect X)
      ((Memref.whole cc0_scratch0).view.readAt (Elt F) (Rect.unit (s := S2048x4) (k0_off2 c (k0_off2_at r).1 (k0_off2_at r).2) S128x1.size (k0_off2_inb c r)).toLoadRect W) (expertW E 0)
      ((Memref.whole cc0_scratch0).view.readAt (Elt F) (Rect.unit (s := S2048x4) (k0_off3 c (k0_off3_at r).1 (k0_off3_at r).2) S128x1.size (k0_off3_inb c r)).toLoadRect W) (expertW E 1)
      ((Memref.whole cc0_scratch0).view.readAt (Elt F) (Rect.unit (s := S2048x4) (k0_off4 c (k0_off4_at r).1 (k0_off4_at r).2) S128x1.size (k0_off4_inb c r)).toLoadRect W) (expertW E 2)
      ((Memref.whole cc0_scratch0).view.readAt (Elt F) (Rect.unit (s := S2048x4) (k0_off5 c (k0_off5_at r).1 (k0_off5_at r).2) S128x1.size (k0_off5_inb c r)).toLoadRect W) (expertW E 3)
      = halfOf X W E (if r = 1 then blk true c 0 else if r = 0 then blk false c 0 else blk false c (r.val - 1)) (r = 1) :=
  halfOf_at X W E _ _ _ _ _ _ _ _ _ _ _ _ (off1_eq c r) (off2_eq c r) (off3_eq c r) (off4_eq c r) (off5_eq c r)

theorem blk_down (c : Dev nD) (r : Fin 7) : (c.val + r.val + 2) % 8 = (blk true c (r.val + 1)).val := by revert c r; decide

/-- The contribution the kernel computes at step `r` downwards. -/
theorem half_down (c : Dev nD) (W : Vec F S2048x4 .f32) (X : Vec F S2048x512 .bf16) (E : Vec F S4x512x1024 .bf16) (r : Fin 7) :
    fourDots ((Memref.whole cc0_stg0_0).view.readAt (Elt F) (Rect.unit (s := S2048x512) (k0_off6 c (BitVec.ofNat 32 r.val)) S128x512.size (k0_off6_inb c r)).toLoadRect X)
      ((Memref.whole cc0_scratch0).view.readAt (Elt F) (Rect.unit (s := S2048x4) (k0_off7 c (BitVec.ofNat 32 r.val)) S128x1.size (k0_off7_inb c r)).toLoadRect W) (expertW E 0)
      ((Memref.whole cc0_scratch0).view.readAt (Elt F) (Rect.unit (s := S2048x4) (k0_off8 c (BitVec.ofNat 32 r.val)) S128x1.size (k0_off8_inb c r)).toLoadRect W) (expertW E 1)
      ((Memref.whole cc0_scratch0).view.readAt (Elt F) (Rect.unit (s := S2048x4) (k0_off9 c (BitVec.ofNat 32 r.val)) S128x1.size (k0_off9_inb c r)).toLoadRect W) (expertW E 2)
      ((Memref.whole cc0_scratch0).view.readAt (Elt F) (Rect.unit (s := S2048x4) (k0_off10 c (BitVec.ofNat 32 r.val)) S128x1.size (k0_off10_inb c r)).toLoadRect W) (expertW E 3)
      = halfOf X W E (blk true c (r.val + 1)) true :=
  halfOf_at X W E _ _ _ _ _ _ _ _ _ _ _ _
    ((k0_off6_eq c r).trans (by rw [blk_down]; rfl)) ((k0_off7_eq c r).trans (by rw [blk_down]; rfl)) ((k0_off8_eq c r).trans (by rw [blk_down]; rfl))
    ((k0_off9_eq c r).trans (by rw [blk_down]; rfl)) ((k0_off10_eq c r).trans (by rw [blk_down]; rfl))

end Cert.KernelIdeal.MoeRing

end
-- ==== Proof.KernelIdeal.Protocol.lean ====
module

public import proofs.«01_k».proof.Proof.KernelIdeal.Contents
public import Idealize.ShloMosaic.Lib.Ring

/-!
The protocol of the two rings: the semaphore cells, what each of them hands over, who pays it, and in which order the
devices may wait.

Every transfer of direction `d` at step `s` has a landing slot of its own on the receiver, a semaphore that counts the
sender's buffer read out and one that counts the slot filled. The barrier hands each device its two neighbours' landing slots.
-/

@[expose] public section

set_option maxRecDepth 16384

noncomputable section

namespace Cert.KernelIdeal.MoeRing

open Cert.KernelIdeal Cert.KernelIdeal.Gen
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The launch's own rounds beside the rings' rounds. -/
abbrev UB : Type := URounds (GSem nD τ sig) Bool
abbrev UU : Type := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- A whole buffer of device `c`, held outright at contents `f`. -/
abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f

/-! ## Buffers, slots and cells -/

/-- The sending buffer of a direction, and its array of seven landing slots. -/
def sendM : Bool → Memref sig .tc .vmem S128x1024 .bf16 | false => Memref.whole cc0_scratch1 | true => Memref.whole cc0_scratch2
def ringM : Bool → Memref sig .tc .vmem S7x128x1024 .bf16 | false => Memref.whole cc0_scratch3 | true => Memref.whole cc0_scratch4

theorem slot_inb (s : Fin 7) : ∀ a, (![s.val, 0, 0] : Fin 3 → ℕ) a + S1x128x1024.size a ≤ S7x128x1024.size a := by
  revert s; decide
abbrev slotRect (s : Fin 7) : Rect S7x128x1024 := Rect.unit (s := S7x128x1024) ![s.val, 0, 0] S1x128x1024.size (slot_inb s)
/-- Landing slot `s` of direction `d`. -/
def slotM (d : Bool) (s : Fin 7) : Memref sig .tc .vmem S128x1024 .bf16 :=
  ((ringM d).slice (slotRect s) (fun _ => rfl)).squeeze S128x1024 squeezes_S1x128x1024_S128x1024

/-- A transfer's semaphore: direction, receiving side or not, step. -/
abbrev Lane : Type := Bool × Bool × Fin 7
theorem dsem_lt (k : Lane) : 5 + 14 * k.1.toNat + 7 * k.2.1.toNat + k.2.2.val < 33 := by revert k; decide
set_option backward.proofsInPublic true in
def dsem (k : Lane) : DmaSem sig := ⟨5 + 14 * k.1.toNat + 7 * k.2.1.toNat + k.2.2.val, dsem_lt k⟩

abbrev barS : Sem sig := (SemArray.scalar (sig.barrier 0 rfl) : Sems sig S_).sem

/-- The kernel's own 28 semaphores, and with the barrier's (`none`) all of the protocol's. -/
def osem (k : Lane) : SemLoc sig := .dma (dsem k)
def csem : Option Lane → SemLoc sig | none => .reg barS | some k => osem k
abbrev barCell (c : Dev nD) : GSem nD τ sig := ((c : Thread nD τ), .reg barS)
abbrev xferCell (c : Dev nD) (k : Lane) : GSem nD τ sig := ((c : Thread nD τ), .dma (dsem k))
abbrev kcell (ck : Dev nD × Option Lane) : GSem nD τ sig := ((ck.1 : Thread nD τ), csem ck.2)

/-- Reading a semaphore's number back. -/
def laneOf (q : DmaSem sig) : Lane := (decide (19 ≤ q.val), decide ((q.val - 5) / 7 % 2 = 1), ⟨(q.val - 5) % 7, Nat.mod_lt _ (by decide)⟩)
theorem laneOf_dsem (k : Lane) : laneOf (dsem k) = k := by revert k; decide
theorem dsem_ge (k : Lane) : 5 ≤ (dsem k).val := by revert k; decide
theorem dsem_injective : Function.Injective dsem := fun a b h => by rw [← laneOf_dsem a, h, laneOf_dsem]

/-- One transfer's credit. -/
def N : ℕ := (sendM false).view.dmaCredit
theorem N_pos : 0 < N := View.dmaCredit_pos _ (by decide)
theorem slot_credit (d : Bool) (s : Fin 7) : (slotM d s).view.dmaCredit = N := by cases d <;> rfl
theorem send_credit (d : Bool) : (sendM d).view.dmaCredit = N := by cases d <;> rfl

/-! ## What is handed over -/

/-- A landing slot of device `c`, and its sending buffer, each by its own elements. -/
def slotPts (d : Bool) (s : Fin 7) (c : Dev nD) (f : Buf (Elt F) ((slotM d s).view.loc (c : Thread nD τ))) : sProp 𝕄 :=
  (slotM d s).view.loc (c : Thread nD τ) ↦[(slotM d s).view.set]{fullShare} f
def sendPts (d : Bool) (c : Dev nD) (f : Buf (Elt F) ((sendM d).view.loc (c : Thread nD τ))) : sProp 𝕄 :=
  (sendM d).view.loc (c : Thread nD τ) ↦[(sendM d).view.set]{fullShare} f

instance slotPts_storable (d s c) (f) : BI.Storable (upEmb : UEmb _ 𝕄) (slotPts (F := F) d s c f) := by unfold slotPts; infer_instance
instance sendPts_storable (d c) (f) : BI.Storable (upEmb : UEmb _ 𝕄) (sendPts (F := F) d c f) := by unfold sendPts; infer_instance

/-- Every landing slot of direction `d` on device `c`, free to be written. -/
def landing (d : Bool) (c : Dev nD) : sProp 𝕄 := bigSep Finset.univ fun s : Fin 7 => iprop(∃ f, slotPts d s c f)
/-- A landing slot holding exactly what the neighbour sent at that step. -/
def landed (J : Inputs F) (d : Bool) (s : Fin 7) (c : Dev nD) : sProp 𝕄 :=
  iprop(∃ f, ⌜(slotM d s).view.read (Elt F) f = sent J d s.val (frm d c)⌝ ∗ slotPts d s c f)
/-- A sending buffer at some contents; at the contents of step `s`. -/
def sendFree (d : Bool) (c : Dev nD) : sProp 𝕄 := iprop(∃ f, sendPts d c f)
def sendFull (J : Inputs F) (d : Bool) (s : ℕ) (c : Dev nD) : sProp 𝕄 :=
  iprop(∃ f, ⌜(sendM d).view.read (Elt F) f = sent J d s c⌝ ∗ sendPts d c f)

instance landing_storable (d c) : BI.Storable (upEmb : UEmb _ 𝕄) (landing (F := F) d c) := by unfold landing; infer_instance
instance landed_storable (J : Inputs F) (d s c) : BI.Storable (upEmb : UEmb _ 𝕄) (landed J d s c) := by unfold landed; infer_instance
instance sendFree_storable (d c) : BI.Storable (upEmb : UEmb _ 𝕄) (sendFree (F := F) d c) := by unfold sendFree; infer_instance

/-- What a transfer's semaphore hands its owner: the receiving side the filled slot, the sending side its buffer. -/
def xferPay (J : Inputs F) (c : Dev nD) : Lane → sProp 𝕄
  | (d, true, s) => landed J d s c
  | (d, false, s) => sendFree d c
instance xferPay_storable (J : Inputs F) (c k) : BI.Storable (upEmb : UEmb _ 𝕄) (xferPay J c k) := by
  obtain ⟨d, _ | _, s⟩ := k <;> unfold xferPay <;> infer_instance

abbrev IsBar (g : GSem nD τ sig) : Prop := g.1.2 = .tc ∧ g.2 = .reg barS
/-- The transfer semaphore a location is, if it is one. -/
def xferOf : SemLoc sig → Option Lane
  | .dma q => if 5 ≤ q.val then some (laneOf q) else none
  | .reg _ => none
theorem xferOf_dsem (k : Lane) : xferOf (.dma (dsem k)) = some k := by
  show (if 5 ≤ (dsem k).val then some (laneOf (dsem k)) else none) = _
  rw [if_pos (dsem_ge k), laneOf_dsem]

/-- One round on every cell. The barrier of device `c` has a duty per direction `d`, of one unit, paid by the device `c` sends
    to in that direction, with its landing slots. A transfer's cell has one duty, the transfer's credit. -/
def rings (J : Inputs F) : Rounds.Schedule (GSem nD τ sig) Bool 𝕄 where
  duties g r := if r = 0 ∧ IsBar g then Finset.univ else if r = 0 ∧ g.1.2 = .tc ∧ (xferOf g.2).isSome = true then {false} else ∅
  unitless _ := False
  amount g _ _ := if (xferOf g.2).isSome = true then N else 1
  payload g _ d := match xferOf g.2 with
    | some k => xferPay J g.1.1 k
    | none => if g.2 = .reg barS then landing d (tgt d g.1.1) else iprop(emp)
  amount_pos g _ _ _ := by
    by_cases h : (xferOf g.2).isSome = true
    · rw [if_pos h]; exact N_pos
    · rw [if_neg h]; exact Nat.one_pos

instance rings_payload_storable (J : Inputs F) (g : GSem nD τ sig) (r : ℕ) (d : Bool) :
    BI.Storable (upEmb : UEmb _ 𝕄) ((rings J).payload g r d) := by
  show BI.Storable upEmb (match xferOf g.2 with
    | some k => xferPay J g.1.1 k
    | none => if g.2 = .reg barS then landing d (tgt d g.1.1) else iprop(emp))
  split
  · infer_instance
  · split <;> infer_instance

section Tables
variable (J : Inputs F) (c : Dev nD) (k : Lane)

theorem duties_bar : (rings J).duties (barCell c) 0 = Finset.univ := by dsimp only [rings]; exact if_pos ⟨rfl, rfl, rfl⟩
theorem duties_xfer : (rings J).duties (xferCell c k) 0 = {false} := by
  dsimp only [rings]
  rw [if_neg (fun h => by cases h.2.2), if_pos ⟨rfl, rfl, by rw [xferOf_dsem]; rfl⟩]
theorem duties_after (g : GSem nD τ sig) : ∀ r, 1 ≤ r → (rings J).duties g r = ∅ :=
  fun r hr => by dsimp only [rings]; rw [if_neg fun h => by omega, if_neg fun h => by omega]
theorem amount_bar (d : Bool) : (rings J).amount (barCell c) 0 d = 1 := by
  dsimp only [rings]; exact if_neg (fun h => by cases h)
theorem amount_xfer (d : Bool) : (rings J).amount (xferCell c k) 0 d = N := by
  dsimp only [rings]; rw [if_pos (by rw [xferOf_dsem]; rfl)]
theorem payload_bar (d : Bool) : (rings J).payload (barCell c) 0 d = landing d (tgt d c) := by
  show (if (SemLoc.reg barS : SemLoc sig) = .reg barS then landing d (tgt d c) else iprop(emp)) = _
  exact if_pos rfl
theorem payload_xfer (d : Bool) : (rings J).payload (xferCell c k) 0 d = xferPay J c k := by
  dsimp only [rings]; rw [xferOf_dsem]
theorem expect_bar : (rings J).expect (barCell c) 0 = 2 := by
  unfold Schedule.expect Schedule.amountOf
  rw [duties_bar, Finset.sum_congr rfl fun d _ => amount_bar J c d]; rfl
theorem expect_xfer : (rings J).expect (xferCell c k) 0 = N := by
  unfold Schedule.expect Schedule.amountOf; rw [duties_xfer, Finset.sum_singleton, amount_xfer]
/-- What a wait on the barrier hands over: the landing slots of both neighbours. -/
theorem rest_bar : bigSep ((rings J).duties (barCell c) 0 \ ∅) (fun d => (rings J).payload (barCell c) 0 d)
    = iprop(landing false (nxt c) ∗ landing true (prv c)) := by
  rw [Finset.sdiff_empty, duties_bar, bigSep_univ_eq_bigSepL [false, true] (by decide) (by decide), bigSepL_cons_cons, bigSepL_singleton,
    payload_bar, payload_bar]; rfl
theorem rest_xfer : bigSep ((rings J).duties (xferCell c k) 0 \ ∅) (fun d => (rings J).payload (xferCell c k) 0 d) = xferPay J c k := by
  rw [Finset.sdiff_empty, duties_xfer, bigSep_singleton, payload_xfer]

end Tables

/-! ## What a device owes, and the order of the waits -/

/-- What the last `n` steps still owe the neighbours' receiving cells: the upward transfer of a step is started first. -/
def owedLast (c : Dev nD) : ℕ → CellTallies nD τ sig Unit
  | 0 => 0
  | n + 1 => (owedLast c n + tallyAt (xferCell (tgt true c) (true, true, ⟨6 - n, by omega⟩)) () N)
      + tallyAt (xferCell (tgt false c) (false, true, ⟨6 - n, by omega⟩)) () N
/-- At launch: every transfer, and a unit to each neighbour's barrier; the one below is signalled first. -/
def owedBar (c : Dev nD) : CellTallies nD τ sig Unit := owedLast c 7 + tallyAt (barCell (nxt c)) () 1
def owedAll (c : Dev nD) : CellTallies nD τ sig Unit := owedBar c + tallyAt (barCell (prv c)) () 1

def L (g : GSem nD τ sig) : Finset Unit := if g.1.2 = .tc then {()} else ∅
/-- The barrier at 1, the receiving cells of step `s` at `2 + s`, everything else at 0. -/
def lvOf : Option Lane → ℕ | some (_, true, s) => 2 + s.val | _ => 0
def lv (g : GSem nD τ sig) (_ : Unit) : ℕ := if g.2 = .reg barS then 1 else lvOf (xferOf g.2)
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := if_pos rfl
theorem lv_xfer (c : Dev nD) (k : Lane) (u) : lv (xferCell c k) u = lvOf (some k) := by
  unfold lv; rw [if_neg (fun h => by cases h), xferOf_dsem]

theorem owedLast_pos {c : Dev nD} {g : GSem nD τ sig} {u : Unit} : ∀ {n : ℕ}, n ≤ 7 → 0 < owedLast c n g u →
    g.1.2 = .tc ∧ 9 - n ≤ lv g u
  | 0, _, h => absurd h (Nat.lt_irrefl 0)
  | n + 1, hn, h => by
    unfold owedLast at h
    rw [Pi.add_apply, Finsupp.add_apply, Pi.add_apply, Finsupp.add_apply, tallyAt_apply, tallyAt_apply] at h
    by_cases h1 : g = xferCell (tgt true c) (true, true, ⟨6 - n, by omega⟩) ∧ u = ()
    · rw [h1.1]; refine ⟨rfl, ?_⟩; rw [lv_xfer]; show _ ≤ 2 + (6 - n); omega
    by_cases h2 : g = xferCell (tgt false c) (false, true, ⟨6 - n, by omega⟩) ∧ u = ()
    · rw [h2.1]; refine ⟨rfl, ?_⟩; rw [lv_xfer]; show _ ≤ 2 + (6 - n); omega
    rw [if_neg h1, if_neg h2] at h
    have := owedLast_pos (n := n) (by omega) h
    exact ⟨this.1, by omega⟩

theorem owedAll_pos {c : Dev nD} {g : GSem nD τ sig} {u : Unit} (h : 0 < owedAll c g u) : g.1.2 = .tc ∧ 1 ≤ lv g u := by
  unfold owedAll owedBar at h
  have hl := fun h' => owedLast_pos (c := c) (g := g) (u := u) (n := 7) (Nat.le_refl _) h'
  generalize owedLast c 7 = T at h hl
  rw [Pi.add_apply, Finsupp.add_apply, Pi.add_apply, Finsupp.add_apply, tallyAt_apply, tallyAt_apply] at h
  by_cases h1 : g = barCell (nxt c) ∧ u = ()
  · rw [h1.1, lv_bar]; exact ⟨rfl, Nat.le_refl _⟩
  by_cases h2 : g = barCell (prv c) ∧ u = ()
  · rw [h2.1, lv_bar]; exact ⟨rfl, Nat.le_refl _⟩
  rw [if_neg h1, if_neg h2] at h
  exact ⟨(hl h).1, by have := (hl h).2; omega⟩

/-- A device may wait on a cell below everything it owes. -/
theorem mayWait (c : Dev nD) (sm : SemLoc sig) (ℓ : ℕ) (O : CellTallies nD τ sig Unit) (hs : lv ((c : Thread nD τ), sm) () ≤ ℓ)
    (hO : ∀ g u, 0 < O g u → g.1.2 = .tc ∧ ℓ < lv g u) : (levAts L lv : sProp 𝕄) ⊢ MayWait (c : Thread nD τ) sm () O :=
  MayOwe.of_cut (L := L) (lev := lv) ℓ (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_bar (c : Dev nD) : (levAts L lv : sProp 𝕄) ⊢ MayWait (c : Thread nD τ) (.reg barS) () (owedLast c 7) :=
  mayWait c _ 1 _ (by rw [lv_bar]) fun g u h => ⟨(owedLast_pos (Nat.le_refl _) h).1, by have := (owedLast_pos (Nat.le_refl _) h).2; omega⟩
theorem mayWait_xfer (c : Dev nD) (k : Lane) (n : ℕ) (hn : n ≤ 6 - k.2.2.val) :
    (levAts L lv : sProp 𝕄) ⊢ MayWait (c : Thread nD τ) (.dma (dsem k)) () (owedLast c n) :=
  mayWait c _ (2 + k.2.2.val) _ (by obtain ⟨d, _ | _, s⟩ := k <;> rw [lv_xfer] <;> dsimp only [lvOf] <;> omega)
    fun g u h => ⟨(owedLast_pos (by omega) h).1, by have := (owedLast_pos (by omega) h).2; have := k.2.2.isLt; omega⟩
theorem mayWait_stage (c : Dev nD) (q : DmaSem sig) (hq : q.val < 5) (O : CellTallies nD τ sig Unit) (hO : O = owedAll c ∨ O = 0) :
    (levAts L lv : sProp 𝕄) ⊢ MayWait (c : Thread nD τ) (.dma q) () O := by
  refine mayWait c _ 0 _ ?_ fun g u h => ?_
  · unfold lv; rw [if_neg (fun h => by cases h)]
    show lvOf (if 5 ≤ q.val then _ else none) ≤ 0
    rw [if_neg (by omega)]; exact Nat.le_refl _
  · rcases hO with rfl | rfl
    · exact owedAll_pos h
    · exact absurd h (Nat.lt_irrefl 0)

end Cert.KernelIdeal.MoeRing

end
-- ==== Proof.KernelIdeal.Steps.lean ====
module

public import proofs.«01_k».proof.Proof.KernelIdeal.Protocol

/-!
The rules of the remote effects at this protocol: the two signals and the wait of the barrier, a transfer's start, and the
waits for its sending buffer and for its landing.
-/

@[expose] public section

set_option maxRecDepth 16384

noncomputable section

namespace Cert.KernelIdeal.MoeRing

open Cert.KernelIdeal Cert.KernelIdeal.Gen
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (J : Inputs F) (K : Dev nD × Option Lane → ℕ)

/-- Every cell's invariant, under the names `K`, and that every cell has reached its round. -/
def records : sProp 𝕄 :=
  iprop((bigSep Finset.univ fun ck : Dev nD × Option Lane => cellInv ER (rings J) (K ck) (kcell ck))
    ∗ bigSep Finset.univ fun ck : Dev nD × Option Lane => reached ER (kcell ck) 0)
instance records_persistent : BI.Persistent (records J K) := by unfold records; infer_instance

theorem inv_of (ck : Dev nD × Option Lane) : records J K ⊢ cellInv ER (rings J) (K ck) (kcell ck) := by
  have h : (bigSep Finset.univ fun ck : Dev nD × Option Lane => cellInv ER (rings J) (K ck) (kcell ck) : sProp 𝕄)
      ⊢ cellInv ER (rings J) (K ck) (kcell ck) := bigSep_elim (Finset.mem_univ ck)
  unfold records; iintro ⟨#H, -⟩
  iapply h; iexact H
theorem reached_of (ck : Dev nD × Option Lane) : records J K ⊢ reached ER (kcell ck) 0 := by
  have h : (bigSep Finset.univ fun ck : Dev nD × Option Lane => reached ER (kcell ck) 0 : sProp 𝕄)
      ⊢ reached ER (kcell ck) 0 := bigSep_elim (Finset.mem_univ ck)
  unfold records; iintro ⟨-, #H⟩
  iapply h; iexact H
theorem inv_bar (c : Dev nD) : records J K ⊢ cellInv ER (rings J) (K (c, none)) (barCell c) := inv_of J K (c, none)
theorem inv_xfer (c : Dev nD) (k : Lane) : records J K ⊢ cellInv ER (rings J) (K (c, some k)) (xferCell c k) := inv_of J K (c, some k)
theorem reached_bar (c : Dev nD) : records J K ⊢ reached ER (barCell c) 0 := reached_of J K (c, none)
theorem reached_xfer (c : Dev nD) (k : Lane) : records J K ⊢ reached ER (xferCell c k) 0 := reached_of J K (c, some k)

/-- What a device still owes, whatever it has waited for. -/
def owing (c : Dev nD) (O : CellTallies nD τ sig Unit) : sProp 𝕄 := iprop(∃ W, owes (c : Thread nD τ) O W)

/-- A transfer before its start: both cells' positions, the tokens of its two payments, the credit to wait for its landing. -/
def laneStart (c : Dev nD) (d : Bool) (s : Fin 7) : sProp 𝕄 :=
  iprop(atPos ER (xferCell c (d, false, s)) 0 ∅ 0 ∗ atPos ER (xferCell c (d, true, s)) 0 ∅ 0
    ∗ dutyTok ER (xferCell c (d, false, s)) 0 false ∗ dutyTok ER (xferCell (tgt d c) (d, true, s)) 0 false
    ∗ cred (tallyAt (xferCell c (d, true, s)) () N))
/-- The part of a transfer that waits on cell `k`. -/
def laneWait (c : Dev nD) (k : Lane) : sProp 𝕄 := iprop(atPos ER (xferCell c k) 0 ∅ 0 ∗ cred (tallyAt (xferCell c k) () N))

/-- A signal to the neighbour a device hears from in direction `d`, with the landing slots of that direction. -/
theorem wp_signal_to (c n : Dev nD) (d : Bool) (hn : n = frm d c) (O : CellTallies nD τ sig Unit)
    {α : Type} {Q : α → sProp 𝕄} {k : PUnit → Prog (TpuEff nD τ sig (Elt F) Λ₀ .tc) α} :
    iprop(records J K ∗ owing c (O + tallyAt (barCell (frm d c)) () 1) ∗ dutyTok ER (barCell (frm d c)) 0 d ∗ landing d c)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toInt) k) Q) := by
  subst hn
  unfold owing
  iintro ⟨#HR, ⟨%W, HO⟩, Ht, Hl⟩ Hk
  iapply (Rounds.wp_signal 𝒱₀ ER (rings J) (c : Thread nD τ) none (dst := (frm d c : Thread nD τ)) (κ := K (frm d c, none))
      (d := d) (by rw [duties_bar]; exact Finset.mem_univ _) ((amount_bar J (frm d c) d).trans (by decide)) () O rfl)
    $$ [HO Ht Hl]
  · isplitr; · iapply (inv_bar J K (frm d c)); iexact HR
    isplitl [HO]; · iexact HO
    isplitl [Ht]; · iexact Ht
    isplitl [Hl]; · rw [payload_bar, tgt_frm]; iexact Hl
    iapply (reached_bar J K (frm d c)); iexact HR
  iintro HO
  iapply Hk
  iexists W; iexact HO

/-- The wait for both signals: the landing slots of both neighbours. -/
theorem wp_wait_bar (c : Dev nD)
    {α : Type} {Q : α → sProp 𝕄} {k : PUnit → Prog (TpuEff nD τ sig (Elt F) Λ₀ .tc) α} :
    iprop(records J K ∗ levAts L lv ∗ owing c (owedLast c 7) ∗ atPos ER (barCell c) 0 ∅ 0 ∗ cred (tallyAt (barCell c) () 2))
      ⊢ iprop(((owing c (owedLast c 7) ∗ semVal (barCell c) 0 ∗ landing false (nxt c) ∗ landing true (prv c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (2#32 : BitVec 32).toInt.toNat) k) Q) := by
  unfold owing
  iintro ⟨#HR, #Hlev, ⟨%W, HO⟩, Hat, Hc⟩ Hk
  iapply (Rounds.wp_wait_rest_token 𝒱₀ ER (rings J) (c : Thread nD τ) none (κ := K (c, none))
      (wpE_semWait_eq 𝒱₀ (c : Thread nD τ) none Set.univ) (Set.mem_univ _) () (O := owedLast c 7) (W := W) (R := 0) (m := 0) (T := ∅)
      (by rw [expect_bar]; decide)) $$ [Hc HO Hat]
  · isplitr; · iapply (inv_bar J K (c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar J c)) $$ Hpay
  imod (Rounds.cell_close ER (rings J) (Set.mem_univ (K (c, none))) (fun h => h) (R := 0 + 1) (duties_after J (barCell c))) $$ [Hat] with Hz
  · isplitr; · iapply (inv_bar J K (c)); iexact HR
    iexact Hat
  iapply Hk
  isplitl [HO]; · iexists _; iexact HO
  isplitl [Hz]; · iexact Hz
  iexact Hp

/-- The start of the transfer of step `s` in direction `d`. -/
theorem wp_send (c n : Dev nD) (d : Bool) (s : Fin 7) (hn : n = tgt d c) (M D : Memref sig .tc .vmem S128x1024 .bf16) (q q' : DmaSem sig)
    (hM : M = sendM d) (hD : D = slotM d s) (hq : q = dsem (d, false, s)) (hq' : q' = dsem (d, true, s))
    (O : CellTallies nD τ sig Unit) {hsc : D.view.ref.isScScratch = false}
    {hsrc : M.view.WordExact} {hdst : D.view.WordExact}
    {hsem : DmaTarget.Typed .vmem (.dma q') (.remote (Dev.tc n : Thread nD τ) D (.dma q) hsc)}
    {α : Type} {Q : α → sProp 𝕄} {k : PUnit → Prog (TpuEff nD τ sig (Elt F) Λ₀ .tc) α} :
    iprop(records J K ∗ owing c (O + tallyAt (xferCell (tgt d c) (d, true, s)) () N) ∗ laneStart c d s
        ∗ sendFull J d s.val c ∗ (∃ f, slotPts d s (tgt d c) f))
      ⊢ iprop(((owing c O ∗ laneWait c (d, false, s) ∗ laneWait c (d, true, s)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) D (.dma q) hsc) (.dma q') hsrc hdst hsem) k) Q) := by
  subst hn hM hD hq hq'
  unfold owing laneStart laneWait sendFull
  iintro ⟨#HR, ⟨%W, HO⟩, ⟨HaS, HaV, HtS, HtV, HcV⟩, ⟨%fs, %hfs, Hs⟩, ⟨%fd, Hd⟩⟩ Hk
  unfold sendPts slotPts
  iapply (Rounds.wp_send_pointsTo 𝒱₀ ER (rings J) (c : Thread nD τ) none (κ₁ := K (c, some (d, false, s))) (κ₂ := K (tgt d c, some (d, true, s)))
    (r₁ := 0) (r₂ := 0) (d₁ := false) (d₂ := false) (fs := fs) (fd := fd)
    (by rw [duties_xfer]; exact Finset.mem_singleton_self _) (by rw [duties_xfer]; exact Finset.mem_singleton_self _)
    () () N (by exact slot_credit d s) (amount_xfer J c (d, false, s) false) (amount_xfer J (tgt d c) (d, true, s) false) O rfl (W := W)
    (by rw [payload_xfer]; show _ ⊢ sendFree d c; unfold sendFree sendPts; iintro H; iexists fs; iexact H)
    (by
      rw [payload_xfer]; show _ ⊢ landed J d s (tgt d c); unfold landed slotPts; iintro H
      iexists ((slotM d s).view.write (Elt F) fd ((sendM d).view.read (Elt F) fs) Finset.univ); isplitr
      · ipureintro; rw [frm_tgt]; exact (View.read_write_univ _ _).trans hfs
      · iexact H)) $$ [HO HtS HtV Hs Hd]
  · isplitr; · iapply (inv_xfer J K (c) (d, false, s)); iexact HR
    isplitr; · iapply (inv_xfer J K (tgt d c) (d, true, s)); iexact HR
    isplitl [Hs]; · iexact Hs
    isplitl [Hd]; · iexact Hd
    isplitl [HO]; · iexact HO
    isplitl [HtS]; · iexact HtS
    isplitr; · iapply (reached_xfer J K (c) (d, false, s)); iexact HR
    isplitl [HtV]; · iexact HtV
    iapply (reached_xfer J K (tgt d c) (d, true, s)); iexact HR
  iintro ⟨HcS, HO⟩
  iapply Hk
  isplitl [HO]; · iexists W; iexact HO
  isplitl [HaS HcS]
  · isplitl [HaS]; · iexact HaS
    iexact HcS
  isplitl [HaV]; · iexact HaV
  iexact HcV

/-- A wait on one of a transfer's two semaphores, when the last `n` steps are still owed: what the semaphore hands over, and
    its counter back at zero. -/
theorem wp_wait (c : Dev nD) (k : Lane) (n : ℕ) (hn : n ≤ 6 - k.2.2.val) (A B : Memref sig .tc .vmem S128x1024 .bf16) (q : DmaSem sig)
    (hq : q = dsem k) (hB : B.view.dmaCredit = N)
    {hA' : A.view.WordExact} {hB' : B.view.WordExact}
    {α : Type} {Q : α → sProp 𝕄} {kk : PUnit → Prog (TpuEff nD τ sig (Elt F) Λ₀ .tc) α} :
    iprop(records J K ∗ levAts L lv ∗ owing c (owedLast c n) ∗ laneWait c k)
      ⊢ iprop(((owing c (owedLast c n) ∗ semVal (xferCell c k) 0 ∗ xferPay J c k) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q A B hA' hB') kk) Q) := by
  subst hq
  unfold owing laneWait
  iintro ⟨#HR, #Hlev, ⟨%W, HO⟩, Hat, Hc⟩ Hk
  iapply (Rounds.wp_wait_rest_token 𝒱₀ ER (rings J) (c : Thread nD τ) none (κ := K (c, some k))
      (wpE_waitDma2_eq 𝒱₀ (c : Thread nD τ) none Set.univ) (Set.mem_univ _) () (O := owedLast c n) (W := W) (R := 0) (m := 0) (T := ∅)
      (by rw [Nat.zero_add, expect_xfer]; exact hB)) $$ [Hc HO Hat]
  · isplitr; · iapply (inv_xfer J K (c) k); iexact HR
    isplitl [Hc]; · rw [hB]; iexact Hc
    isplitl [HO]; · iexact HO
    isplitr; · iapply (mayWait_xfer c k n hn); iexact Hlev
    iexact Hat
  iintro ⟨HO, Hat, -, Hpay⟩
  ihave Hp := (Entails.of_eq (rest_xfer J c k)) $$ Hpay
  imod (Rounds.cell_close ER (rings J) (Set.mem_univ (K (c, some k))) (fun h => h) (R := 0 + 1) (duties_after J (xferCell c k))) $$ [Hat] with Hz
  · isplitr; · iapply (inv_xfer J K (c) k); iexact HR
    iexact Hat
  iapply Hk
  isplitl [HO]; · iexists _; iexact HO
  isplitl [Hz]; · iexact Hz
  iexact Hp

/-! ## The transfers of a step, in program order -/

theorem owedLast_at (c : Dev nD) (s : Fin 7) : owedLast c (7 - s.val)
    = (owedLast c (6 - s.val) + tallyAt (xferCell (tgt true c) (true, true, s)) () N) + tallyAt (xferCell (tgt false c) (false, true, s)) () N := by
  have h : 7 - s.val = (6 - s.val) + 1 := by omega
  have hs : (⟨6 - (6 - s.val), by omega⟩ : Fin 7) = s := Fin.ext (by show 6 - (6 - s.val) = s.val; omega)
  rw [h]; show (_ + tallyAt (xferCell _ (true, true, (⟨6 - (6 - s.val), _⟩ : Fin 7))) () N) + _ = _
  rw [hs]

/-- What is owed between a step's two starts. -/
def owedMid (c : Dev nD) (s : Fin 7) : CellTallies nD τ sig Unit := owedLast c (6 - s.val) + tallyAt (xferCell (tgt true c) (true, true, s)) () N

section Step
variable (c n : Dev nD) (s : Fin 7)

/-- The upward transfer of step `s`. -/
theorem wp_send_up (hn : n = nxt c) (M D : Memref sig .tc .vmem S128x1024 .bf16) (q q' : DmaSem sig)
    (hM : M = sendM false) (hD : D = slotM false s) (hq : q = dsem (false, false, s)) (hq' : q' = dsem (false, true, s)) {hsc : D.view.ref.isScScratch = false}
    {hsrc : M.view.WordExact} {hdst : D.view.WordExact} {hsem : DmaTarget.Typed .vmem (.dma q') (.remote (Dev.tc n : Thread nD τ) D (.dma q) hsc)}
    {α : Type} {Q : α → sProp 𝕄} {k : PUnit → Prog (TpuEff nD τ sig (Elt F) Λ₀ .tc) α} :
    iprop(records J K ∗ owing c (owedLast c (7 - s.val)) ∗ laneStart c false s ∗ sendFull J false s.val c ∗ (∃ f, slotPts false s (nxt c) f))
      ⊢ iprop(((owing c (owedMid c s) ∗ laneWait c (false, false, s) ∗ laneWait c (false, true, s)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) D (.dma q) hsc) (.dma q') hsrc hdst hsem) k) Q) := by
  rw [owedLast_at]; exact wp_send J K c n false s hn M D q q' hM hD hq hq' (owedMid c s)

/-- The downward transfer of step `s`, started next. -/
theorem wp_send_down (hn : n = prv c) (M D : Memref sig .tc .vmem S128x1024 .bf16) (q q' : DmaSem sig)
    (hM : M = sendM true) (hD : D = slotM true s) (hq : q = dsem (true, false, s)) (hq' : q' = dsem (true, true, s)) {hsc : D.view.ref.isScScratch = false}
    {hsrc : M.view.WordExact} {hdst : D.view.WordExact} {hsem : DmaTarget.Typed .vmem (.dma q') (.remote (Dev.tc n : Thread nD τ) D (.dma q) hsc)}
    {α : Type} {Q : α → sProp 𝕄} {k : PUnit → Prog (TpuEff nD τ sig (Elt F) Λ₀ .tc) α} :
    iprop(records J K ∗ owing c (owedMid c s) ∗ laneStart c true s ∗ sendFull J true s.val c ∗ (∃ f, slotPts true s (prv c) f))
      ⊢ iprop(((owing c (owedLast c (6 - s.val)) ∗ laneWait c (true, false, s) ∗ laneWait c (true, true, s)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) D (.dma q) hsc) (.dma q') hsrc hdst hsem) k) Q) :=
  wp_send J K c n true s hn M D q q' hM hD hq hq' (owedLast c (6 - s.val))

/-- The wait that a step's transfer has been read out: the sending buffer is free again. -/
theorem wp_wait_sent (d : Bool) (A B : Memref sig .tc .vmem S128x1024 .bf16) (q : DmaSem sig)
    (hq : q = dsem (d, false, s)) (hB : B.view.dmaCredit = N) {hA' : A.view.WordExact} {hB' : B.view.WordExact}
    {α : Type} {Q : α → sProp 𝕄} {k : PUnit → Prog (TpuEff nD τ sig (Elt F) Λ₀ .tc) α} :
    iprop(records J K ∗ levAts L lv ∗ owing c (owedLast c (6 - s.val)) ∗ laneWait c (d, false, s))
      ⊢ iprop(((owing c (owedLast c (6 - s.val)) ∗ semVal (xferCell c (d, false, s)) 0 ∗ sendFree d c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q A B hA' hB') k) Q) :=
  wp_wait J K c (d, false, s) (6 - s.val) (Nat.le_refl _) A B q hq hB

/-- The wait that the neighbour's transfer of the step has landed: the slot holds what it sent. -/
theorem wp_wait_landed (d : Bool) (A B : Memref sig .tc .vmem S128x1024 .bf16) (q : DmaSem sig)
    (hq : q = dsem (d, true, s)) (hB : B.view.dmaCredit = N) {hA' : A.view.WordExact} {hB' : B.view.WordExact}
    {α : Type} {Q : α → sProp 𝕄} {k : PUnit → Prog (TpuEff nD τ sig (Elt F) Λ₀ .tc) α} :
    iprop(records J K ∗ levAts L lv ∗ owing c (owedLast c (6 - s.val)) ∗ laneWait c (d, true, s))
      ⊢ iprop(((owing c (owedLast c (6 - s.val)) ∗ semVal (xferCell c (d, true, s)) 0 ∗ landed J d s c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q A B hA' hB') k) Q) :=
  wp_wait J K c (d, true, s) (6 - s.val) (Nat.le_refl _) A B q hq hB

end Step

end Cert.KernelIdeal.MoeRing

end
-- ==== Proof.KernelIdeal.Body.lean ====
module

public import proofs.«01_k».proof.Proof.KernelIdeal.Steps
public import Idealize.ShloMosaic.Lib.VecWindow
public import Idealize.ShloMosaic.Lib.Pipeline.Value

/-!
The kernel's body on one device, run from its buffers and its share of the protocol to the finished block.
-/

@[expose] public section

set_option maxRecDepth 16384

noncomputable section

namespace Cert.KernelIdeal.MoeRing

open Cert.KernelIdeal Cert.KernelIdeal.Gen
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (J : Inputs F) (K : Dev nD × Option Lane → ℕ)

/-! ## The row offsets of the first two halves -/

instance (c : Dev nD) : ClosedOff (k0_off1 c 7#32 0#32) := ⟨_, off1_eq c 0⟩
instance (c : Dev nD) : ClosedOff (k0_off2 c 7#32 0#32) := ⟨_, off2_eq c 0⟩
instance (c : Dev nD) : ClosedOff (k0_off3 c 7#32 0#32) := ⟨_, off3_eq c 0⟩
instance (c : Dev nD) : ClosedOff (k0_off4 c 7#32 0#32) := ⟨_, off4_eq c 0⟩
instance (c : Dev nD) : ClosedOff (k0_off5 c 7#32 0#32) := ⟨_, off5_eq c 0⟩
instance (c : Dev nD) : ClosedOff (k0_off1 c 1#32 128#32) := ⟨_, off1_eq c 1⟩
instance (c : Dev nD) : ClosedOff (k0_off2 c 1#32 128#32) := ⟨_, off2_eq c 1⟩
instance (c : Dev nD) : ClosedOff (k0_off3 c 1#32 128#32) := ⟨_, off3_eq c 1⟩
instance (c : Dev nD) : ClosedOff (k0_off4 c 1#32 128#32) := ⟨_, off4_eq c 1⟩
instance (c : Dev nD) : ClosedOff (k0_off5 c 1#32 128#32) := ⟨_, off5_eq c 1⟩

/-! ## A sending buffer held whole -/

theorem sendPts_up (c : Dev nD) (f : Vec F S128x1024 .bf16) : (sendPts false c f : sProp 𝕄) = ptM c (Memref.whole cc0_scratch1) f := by
  unfold sendPts; rw [show (sendM false).view.set = Finset.univ from View.set_whole _]; rfl
theorem sendPts_down (c : Dev nD) (f : Vec F S128x1024 .bf16) : (sendPts true c f : sProp 𝕄) = ptM c (Memref.whole cc0_scratch2) f := by
  unfold sendPts; rw [show (sendM true).view.set = Finset.univ from View.set_whole _]; rfl

theorem hz2 : (![0, 0] : Fin 2 → ℕ) = fun _ => 0 := funext fun a => by fin_cases a <;> rfl
/-- A sending buffer just stored whole with what the step sends. -/
theorem sendFull_up (s : ℕ) (c : Dev nD) (g : Vec F S128x1024 .bf16) (h : ∃ f w : Vec F S128x1024 .bf16,
      g = (Memref.whole cc0_scratch1).view.writes (Elt F) f [⟨Rect.unit (s := S128x1024) ![0, 0] S128x1024.size inb_S128x1024_S128x1024_0_0, w⟩]
        ∧ w = sent J false s c) :
    ptM c (Memref.whole cc0_scratch1) g ⊢ sendFull J false s c := by
  obtain ⟨f, w, rfl, h⟩ := h
  unfold sendFull; rw [← sendPts_up]
  iintro H; iexists _; isplitr
  · ipureintro; exact (View.read_writes_full (sendM false).view f inb_S128x1024_S128x1024_0_0 w []).trans h
  · iexact H
theorem sendFull_down (s : ℕ) (c : Dev nD) (g : Vec F S128x1024 .bf16) (h : ∃ f w : Vec F S128x1024 .bf16,
      g = (Memref.whole cc0_scratch2).view.writes (Elt F) f [⟨Rect.unit (s := S128x1024) ![0, 0] S128x1024.size inb_S128x1024_S128x1024_0_0, w⟩]
        ∧ w = sent J true s c) :
    ptM c (Memref.whole cc0_scratch2) g ⊢ sendFull J true s c := by
  obtain ⟨f, w, rfl, h⟩ := h
  unfold sendFull; rw [← sendPts_down]
  iintro H; iexists _; isplitr
  · ipureintro; exact (View.read_writes_full (sendM true).view f inb_S128x1024_S128x1024_0_0 w []).trans h
  · iexact H
theorem sendFree_up (c : Dev nD) : sendFree false c ⊢ iprop(∃ f : Vec F S128x1024 .bf16, ptM c (Memref.whole cc0_scratch1) f) := by
  unfold sendFree; iintro ⟨%f, H⟩; iexists f; iapply (Entails.of_eq (sendPts_up c f)); iexact H
theorem sendFree_down (c : Dev nD) : sendFree true c ⊢ iprop(∃ f : Vec F S128x1024 .bf16, ptM c (Memref.whole cc0_scratch2) f) := by
  unfold sendFree; iintro ⟨%f, H⟩; iexists f; iapply (Entails.of_eq (sendPts_down c f)); iexact H

/-- A landing slot filled, as the load through the whole array of slots finds it. -/
theorem landed_up (s : Fin 7) (c : Dev nD) : landed J false s c = (iprop(∃ g : Vec F S7x128x1024 .bf16,
    ⌜shapeCast S128x1024 ((Memref.whole cc0_scratch3).view.readAt (Elt F) (slotRect s).toLoadRect g) shapeCasts_S1x128x1024_S128x1024 = sent J false s.val (prv c)⌝
      ∗ ((((Memref.whole cc0_scratch3).slice (slotRect s) (fun _ => rfl)).squeeze S128x1024 squeezes_S1x128x1024_S128x1024).view.loc (c : Thread nD τ)
        ↦[(((Memref.whole cc0_scratch3).slice (slotRect s) (fun _ => rfl)).squeeze S128x1024 squeezes_S1x128x1024_S128x1024).view.set]{fullShare} g)) : sProp 𝕄) := rfl
theorem landed_down (s : Fin 7) (c : Dev nD) : landed J true s c = (iprop(∃ g : Vec F S7x128x1024 .bf16,
    ⌜shapeCast S128x1024 ((Memref.whole cc0_scratch4).view.readAt (Elt F) (slotRect s).toLoadRect g) shapeCasts_S1x128x1024_S128x1024 = sent J true s.val (nxt c)⌝
      ∗ ((((Memref.whole cc0_scratch4).slice (slotRect s) (fun _ => rfl)).squeeze S128x1024 squeezes_S1x128x1024_S128x1024).view.loc (c : Thread nD τ)
        ↦[(((Memref.whole cc0_scratch4).slice (slotRect s) (fun _ => rfl)).squeeze S128x1024 squeezes_S1x128x1024_S128x1024).view.set]{fullShare} g)) : sProp 𝕄) := rfl

theorem bigSep_steps (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem landing_eq (d : Bool) (c : Dev nD) : (landing d c : sProp 𝕄)
    = iprop((∃ f, slotPts d 0 c f) ∗ (∃ f, slotPts d 1 c f) ∗ (∃ f, slotPts d 2 c f) ∗ (∃ f, slotPts d 3 c f) ∗ (∃ f, slotPts d 4 c f)
      ∗ (∃ f, slotPts d 5 c f) ∗ (∃ f, slotPts d 6 c f)) := bigSep_steps _

theorem weights_held (c : Dev nD) (f : Vec F S2048x4 .f32) (h : f = weights J c) :
    ptM c (Memref.whole cc0_scratch0) f ⊢ ptM c (Memref.whole cc0_scratch0) (weights J c) := Entails.of_eq (by rw [h])

/-- What the body starts from: the protocol's records, what the device owes, its transfers not yet started, its barrier, its
    landing slots, its inputs staged, its scratch buffers and its result's buffer at any contents. -/
def bodyPre (c : Dev nD) : sProp 𝕄 :=
  iprop((records J K ∗ levAts L lv) ∗ owing c (owedAll c)
    ∗ ((bigSep Finset.univ fun s : Fin 7 => laneStart c false s) ∗ (bigSep Finset.univ fun s : Fin 7 => laneStart c true s))
    ∗ (atPos ER (barCell c) 0 ∅ 0 ∗ cred (tallyAt (barCell c) () 2) ∗ dutyTok ER (barCell (prv c)) 0 false ∗ dutyTok ER (barCell (nxt c)) 0 true)
    ∗ (landing false c ∗ landing true c)
    ∗ (ptM c (Memref.whole cc0_stg0_0) (J.x c) ∗ ptM c (Memref.whole cc0_stg1_0) (J.rw c)
      ∗ ptM c (Memref.whole cc0_stg2_0) (J.idx c) ∗ ptM c (Memref.whole cc0_stg3_0) (J.ew c) ∗ (∃ f : Vec F S256x1024 .f32, ptM c (Memref.whole cc0_stg4_0) f))
    ∗ (∃ f : Vec F S2048x4 .f32, ptM c (Memref.whole cc0_scratch0) f) ∗ sendFree false c ∗ sendFree true c)

/-- What it ends with: nothing owed, every counter back at zero, the inputs as they were, the result's buffer at the device's
    block, the landing slots and scratch buffers. -/
def bodyPost (c : Dev nD) : sProp 𝕄 :=
  iprop(owing c 0 ∗ (semVal (barCell c) 0 ∗ bigSep Finset.univ fun k : Lane => semVal (xferCell c k) 0)
    ∗ (landing false c ∗ landing true c)
    ∗ (ptM c (Memref.whole cc0_stg0_0) (J.x c) ∗ ptM c (Memref.whole cc0_stg1_0) (J.rw c)
      ∗ ptM c (Memref.whole cc0_stg2_0) (J.idx c) ∗ ptM c (Memref.whole cc0_stg3_0) (J.ew c) ∗ ptM c (Memref.whole cc0_stg4_0) (outOf J c))
    ∗ (∃ f : Vec F S2048x4 .f32, ptM c (Memref.whole cc0_scratch0) f) ∗ sendFree false c ∗ sendFree true c)

/-! ## The values that travel -/

/-- The contribution computed at each step, upwards and downwards. -/
theorem step_up (c : Dev nD) (s : Fin 7) :
    fourDots ((Memref.whole cc0_stg0_0).view.readAt (Elt F) (Rect.unit (s := S2048x512) (k0_off1 c (k0_off1_at ⟨s.val + 2, by omega⟩).1 (k0_off1_at ⟨s.val + 2, by omega⟩).2) S128x512.size (k0_off1_inb c ⟨s.val + 2, by omega⟩)).toLoadRect (J.x c))
      ((Memref.whole cc0_scratch0).view.readAt (Elt F) (Rect.unit (s := S2048x4) (k0_off2 c (k0_off2_at ⟨s.val + 2, by omega⟩).1 (k0_off2_at ⟨s.val + 2, by omega⟩).2) S128x1.size (k0_off2_inb c ⟨s.val + 2, by omega⟩)).toLoadRect (weights J c)) (expertW (J.ew c) 0)
      ((Memref.whole cc0_scratch0).view.readAt (Elt F) (Rect.unit (s := S2048x4) (k0_off3 c (k0_off3_at ⟨s.val + 2, by omega⟩).1 (k0_off3_at ⟨s.val + 2, by omega⟩).2) S128x1.size (k0_off3_inb c ⟨s.val + 2, by omega⟩)).toLoadRect (weights J c)) (expertW (J.ew c) 1)
      ((Memref.whole cc0_scratch0).view.readAt (Elt F) (Rect.unit (s := S2048x4) (k0_off4 c (k0_off4_at ⟨s.val + 2, by omega⟩).1 (k0_off4_at ⟨s.val + 2, by omega⟩).2) S128x1.size (k0_off4_inb c ⟨s.val + 2, by omega⟩)).toLoadRect (weights J c)) (expertW (J.ew c) 2)
      ((Memref.whole cc0_scratch0).view.readAt (Elt F) (Rect.unit (s := S2048x4) (k0_off5 c (k0_off5_at ⟨s.val + 2, by omega⟩).1 (k0_off5_at ⟨s.val + 2, by omega⟩).2) S128x1.size (k0_off5_inb c ⟨s.val + 2, by omega⟩)).toLoadRect (weights J c)) (expertW (J.ew c) 3)
      = half J c (blk false c (s.val + 1)) false := by
  refine (half_up c _ _ _ _).trans ?_
  unfold half
  rw [if_neg (by intro h; have := congrArg Fin.val h; simp at this), if_neg (by intro h; have := congrArg Fin.val h; simp at this)]
  rw [show (⟨s.val + 2, by omega⟩ : Fin 9).val - 1 = s.val + 1 from rfl,
    show decide ((⟨s.val + 2, by omega⟩ : Fin 9) = 1) = false from decide_eq_false (by intro h; have := congrArg Fin.val h; simp at this)]

/-- What is stored to be sent first, and next: the neighbour's partial sum plus the device's own contribution. -/
theorem first_sent (d : Bool) (c : Dev nD) (a : FVec F S128x1024 .f32) (ha : a = half J c (blk d c 0) d) :
    shapeCast S128x1024 (truncf .bf16 a bitsLt_bf16_f32) shapeCasts_S128x1024_S128x1024 = sent J d 0 c := by
  rw [shapeCast_self, ha]; rfl
theorem next_sent (d : Bool) (s : ℕ) (c : Dev nD) (v : FVec F S128x1024 .bf16) (a : FVec F S128x1024 .f32) (hv : v = sent J d s (frm d c))
    (ha : a = half J c (blk d c (s + 1)) d) :
    shapeCast S128x1024 (truncf .bf16 (addf (extf .f32 v bitsLt_bf16_f32) a) bitsLt_bf16_f32) shapeCasts_S128x1024_S128x1024 = sent J d (s + 1) c := by
  rw [shapeCast_self, ha, hv]; rfl
/-- The device's own half of the result, complete. -/
theorem last_total (d : Bool) (c : Dev nD) (v : FVec F S128x1024 .bf16) (a : FVec F S128x1024 .f32) (hv : v = sent J d 6 (frm d c))
    (ha : a = half J c (blk d c 7) d) : addf (extf .f32 v bitsLt_bf16_f32) a = total J d c := by
  rw [ha, hv]; rfl

/-- The result's buffer stored in its two halves. -/
theorem out_held (c : Dev nD) (g : Vec F S256x1024 .f32) (h : ∃ a b,
      g = (Memref.whole cc0_stg4_0).view.writes (Elt F) (Memref.whole cc0_stg4_0).view.junk
        [⟨Rect.unit (s := S256x1024) ![128, 0] S128x1024.size inb_S256x1024_S128x1024_128_0, a⟩,
         ⟨Rect.unit (s := S256x1024) ![0, 0] S128x1024.size inb_S256x1024_S128x1024_0_0, b⟩]
        ∧ a = total J true c ∧ b = total J false c) :
    ptM c (Memref.whole cc0_stg4_0) g ⊢ ptM c (Memref.whole cc0_stg4_0) (outOf J c) := by
  obtain ⟨a, b, rfl, rfl, rfl⟩ := h
  exact Entails.of_eq rfl

/-- Landing slots filled are landing slots; put back together. -/
theorem slot_back (d : Bool) (s : Fin 7) (c : Dev nD) : landed J d s c ⊢ iprop(∃ f, slotPts d s c f) := by
  unfold landed; iintro ⟨%f, -, H⟩; iexists f; iexact H
theorem up_back (s : Fin 7) (c : Dev nD) (g : Vec F S7x128x1024 .bf16) :
    ((((Memref.whole cc0_scratch3).slice (slotRect s) (fun _ => rfl)).squeeze S128x1024 squeezes_S1x128x1024_S128x1024).view.loc (c : Thread nD τ)
        ↦[(((Memref.whole cc0_scratch3).slice (slotRect s) (fun _ => rfl)).squeeze S128x1024 squeezes_S1x128x1024_S128x1024).view.set]{fullShare} g : sProp 𝕄)
      ⊢ iprop(∃ f, slotPts false s c f) := by
  have h : iprop(slotPts false s c g) ⊢ (iprop(∃ f, slotPts false s c f) : sProp 𝕄) := by iintro H; iexists g; iexact H
  exact h
theorem down_back (s : Fin 7) (c : Dev nD) (g : Vec F S7x128x1024 .bf16) :
    ((((Memref.whole cc0_scratch4).slice (slotRect s) (fun _ => rfl)).squeeze S128x1024 squeezes_S1x128x1024_S128x1024).view.loc (c : Thread nD τ)
        ↦[(((Memref.whole cc0_scratch4).slice (slotRect s) (fun _ => rfl)).squeeze S128x1024 squeezes_S1x128x1024_S128x1024).view.set]{fullShare} g : sProp 𝕄)
      ⊢ iprop(∃ f, slotPts true s c f) := by
  have h : iprop(slotPts true s c g) ⊢ (iprop(∃ f, slotPts true s c f) : sProp 𝕄) := by iintro H; iexists g; iexact H
  exact h
theorem zeros_eq (c : Dev nD) : (bigSep Finset.univ fun k : Lane => semVal (xferCell c k) 0 : sProp 𝕄)
    = iprop(((bigSep Finset.univ fun s : Fin 7 => semVal (xferCell c (false, false, s)) 0) ∗ (bigSep Finset.univ fun s : Fin 7 => semVal (xferCell c (false, true, s)) 0))
      ∗ ((bigSep Finset.univ fun s : Fin 7 => semVal (xferCell c (true, false, s)) 0) ∗ (bigSep Finset.univ fun s : Fin 7 => semVal (xferCell c (true, true, s)) 0))) := by
  rw [BI.bigSep_univ_prod]
  have h2 (Φ : Bool → sProp 𝕄) : bigSep Finset.univ Φ = iprop(Φ false ∗ Φ true) := bigSep_univ_eq_bigSepL [false, true] (by decide) (by decide) Φ
  rw [h2, BI.bigSep_univ_prod, BI.bigSep_univ_prod, h2, h2]

set_option maxHeartbeats 8000000 in
theorem body_run (c : Dev nD) (Kt : PUnit → sProp 𝕄) :
    iprop(bodyPre J K c ∗ (bodyPost J c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Kt := by
  unfold bodyPre
  rw [bigSep_steps, bigSep_steps]
  iintro ⟨⟨⟨#HR, #Hlev⟩, Hw, ⟨⟨HU0, HU1, HU2, HU3, HU4, HU5, HU6⟩, ⟨HD0, HD1, HD2, HD3, HD4, HD5, HD6⟩⟩, ⟨HaB, HcB, HtP, HtN⟩, ⟨HLu, HLd⟩,
    ⟨HX, HRW, HIX, HEW, ⟨%f4, HO⟩⟩, ⟨%f5, HW⟩, HS1, HS2⟩, Hk⟩
  ihave HS1 := (sendFree_up c) $$ HS1
  icases HS1 with ⟨%f6, HS1⟩
  ihave HS2 := (sendFree_down c) $$ HS2
  icases HS2 with ⟨%f7, HS2⟩
  simp only [cc0_body_eq_skeleton]
  unfold cc0_body_skel
  sl_exec!
  unfold owedAll
  iapply (wp_signal_to J K c _ false (Fin.ext (k0_dev1_eq c)) (owedBar c)) $$ [Hw HtP HLu]
  · isplitr; · iexact HR
    isplitl [Hw]; · iexact Hw
    isplitl [HtP]; · iexact HtP
    iexact HLu
  iintro Hw
  sl_exec
  unfold owedBar
  iapply (wp_signal_to J K c _ true (Fin.ext (k0_dev2_eq c)) (owedLast c 7)) $$ [Hw HtN HLd]
  · isplitr; · iexact HR
    isplitl [Hw]; · iexact Hw
    isplitl [HtN]; · iexact HtN
    iexact HLd
  iintro Hw
  sl_exec
  iapply (wp_wait_bar J K c) $$ [Hw HaB HcB]
  · isplitr; · iexact HR
    isplitr; · iexact Hlev
    isplitl [Hw]; · iexact Hw
    isplitl [HaB]; · iexact HaB
    iexact HcB
  iintro ⟨Hw, HzB, HFu, HFd⟩
  ihave HFu := (Entails.of_eq (landing_eq false (nxt c))) $$ HFu
  ihave HFd := (Entails.of_eq (landing_eq true (prv c))) $$ HFd
  icases HFu with ⟨HFu0, HFu1, HFu2, HFu3, HFu4, HFu5, HFu6⟩
  icases HFd with ⟨HFd0, HFd1, HFd2, HFd3, HFd4, HFd5, HFd6⟩
  ihave HW := (weights_held J c _ (by rfl)) $$ HW
  ihave HS1 := (sendFull_up J 0 c _ ⟨_, _, by rfl, by
    refine first_sent J false c _ ?_
    exact half_up c (weights J c) (J.x c) (J.ew c) 0⟩) $$ HS1
  ihave HS2 := (sendFull_down J 0 c _ ⟨_, _, by rfl, by
    refine first_sent J true c _ ?_
    exact half_up c (weights J c) (J.x c) (J.ew c) 1⟩) $$ HS2
  -- Step 0: both transfers started, their contributions computed, both waited for.
  sl_exec
  iapply (wp_send_up J K c _ 0 (Fin.ext (k0_dev3_eq c)) _ _ _ _ (by rfl) (by rfl) (by rfl) (by rfl)) $$ [Hw HU0 HS1 HFu0]
  · isplitr; · iexact HR
    isplitl [Hw]; · iexact Hw
    isplitl [HU0]; · iexact HU0
    isplitl [HS1]; · iexact HS1
    iexact HFu0
  iintro ⟨Hw, HUs, HUr⟩
  sl_exec
  iapply (wp_send_down J K c _ 0 (Fin.ext (k0_dev4_eq c)) _ _ _ _ (by rfl) (by rfl) (by rfl) (by rfl)) $$ [Hw HD0 HS2 HFd0]
  · isplitr; · iexact HR
    isplitl [Hw]; · iexact Hw
    isplitl [HD0]; · iexact HD0
    isplitl [HS2]; · iexact HS2
    iexact HFd0
  iintro ⟨Hw, HDs, HDr⟩
  sl_exec
  iapply (wp_wait_sent J K c 0 false _ _ _ (by rfl) (by rfl)) $$ [Hw HUs]
  · isplitr; · iexact HR
    isplitr; · iexact Hlev
    isplitl [Hw]; · iexact Hw
    iexact HUs
  iintro ⟨Hw, HzUs0, HS1⟩
  sl_exec
  iapply (wp_wait_landed J K c 0 false _ _ _ (by rfl) (by rfl)) $$ [Hw HUr]
  · isplitr; · iexact HR
    isplitr; · iexact Hlev
    isplitl [Hw]; · iexact Hw
    iexact HUr
  iintro ⟨Hw, HzUr0, HG0⟩
  sl_exec
  iapply (wp_wait_sent J K c 0 true _ _ _ (by rfl) (by rfl)) $$ [Hw HDs]
  · isplitr; · iexact HR
    isplitr; · iexact Hlev
    isplitl [Hw]; · iexact Hw
    iexact HDs
  iintro ⟨Hw, HzDs0, HS2⟩
  sl_exec
  iapply (wp_wait_landed J K c 0 true _ _ _ (by rfl) (by rfl)) $$ [Hw HDr]
  · isplitr; · iexact HR
    isplitr; · iexact Hlev
    isplitl [Hw]; · iexact Hw
    iexact HDr
  iintro ⟨Hw, HzDr0, HE0⟩
  ihave HG0 := (Entails.of_eq (landed_up J 0 c)) $$ HG0
  icases HG0 with ⟨%g0, %hg0, HG0⟩
  ihave HE0 := (Entails.of_eq (landed_down J 0 c)) $$ HE0
  icases HE0 with ⟨%e0, %he0, HE0⟩
  ihave HS1 := (sendFree_up c) $$ HS1
  icases HS1 with ⟨%f8, HS1⟩
  ihave HS2 := (sendFree_down c) $$ HS2
  icases HS2 with ⟨%f9, HS2⟩
  sl_exec
  ihave HS1 := (sendFull_up J 1 c _ ⟨_, _, by rfl, by
    refine next_sent J false 0 c _ _ ?_ ?_
    · exact hg0
    · exact step_up J c 0⟩) $$ HS1
  ihave HS2 := (sendFull_down J 1 c _ ⟨_, _, by rfl, by
    refine next_sent J true 0 c _ _ ?_ ?_
    · exact he0
    · exact half_down c (weights J c) (J.x c) (J.ew c) 0⟩) $$ HS2
  -- Step 1: both transfers started, their contributions computed, both waited for.
  iapply (wp_send_up J K c _ 1 (Fin.ext (k0_dev5_eq c)) _ _ _ _ (by rfl) (by rfl) (by rfl) (by rfl)) $$ [Hw HU1 HS1 HFu1]
  · isplitr; · iexact HR
    isplitl [Hw]; · iexact Hw
    isplitl [HU1]; · iexact HU1
    isplitl [HS1]; · iexact HS1
    iexact HFu1
  iintro ⟨Hw, HUs, HUr⟩
  sl_exec
  iapply (wp_send_down J K c _ 1 (Fin.ext (k0_dev6_eq c)) _ _ _ _ (by rfl) (by rfl) (by rfl) (by rfl)) $$ [Hw HD1 HS2 HFd1]
  · isplitr; · iexact HR
    isplitl [Hw]; · iexact Hw
    isplitl [HD1]; · iexact HD1
    isplitl [HS2]; · iexact HS2
    iexact HFd1
  iintro ⟨Hw, HDs, HDr⟩
  sl_exec
  iapply (wp_wait_sent J K c 1 false _ _ _ (by rfl) (by rfl)) $$ [Hw HUs]
  · isplitr; · iexact HR
    isplitr; · iexact Hlev
    isplitl [Hw]; · iexact Hw
    iexact HUs
  iintro ⟨Hw, HzUs1, HS1⟩
  sl_exec
  iapply (wp_wait_landed J K c 1 false _ _ _ (by rfl) (by rfl)) $$ [Hw HUr]
  · isplitr; · iexact HR
    isplitr; · iexact Hlev
    isplitl [Hw]; · iexact Hw
    iexact HUr
  iintro ⟨Hw, HzUr1, HG1⟩
  sl_exec
  iapply (wp_wait_sent J K c 1 true _ _ _ (by rfl) (by rfl)) $$ [Hw HDs]
  · isplitr; · iexact HR
    isplitr; · iexact Hlev
    isplitl [Hw]; · iexact Hw
    iexact HDs
  iintro ⟨Hw, HzDs1, HS2⟩
  sl_exec
  iapply (wp_wait_landed J K c 1 true _ _ _ (by rfl) (by rfl)) $$ [Hw HDr]
  · isplitr; · iexact HR
    isplitr; · iexact Hlev
    isplitl [Hw]; · iexact Hw
    iexact HDr
  iintro ⟨Hw, HzDr1, HE1⟩
  ihave HG1 := (Entails.of_eq (landed_up J 1 c)) $$ HG1
  icases HG1 with ⟨%g1, %hg1, HG1⟩
  ihave HE1 := (Entails.of_eq (landed_down J 1 c)) $$ HE1
  icases HE1 with ⟨%e1, %he1, HE1⟩
  ihave HS1 := (sendFree_up c) $$ HS1
  icases HS1 with ⟨%f10, HS1⟩
  ihave HS2 := (sendFree_down c) $$ HS2
  icases HS2 with ⟨%f11, HS2⟩
  sl_exec
  ihave HS1 := (sendFull_up J 2 c _ ⟨_, _, by rfl, by
    refine next_sent J false 1 c _ _ ?_ ?_
    · exact hg1
    · exact step_up J c 1⟩) $$ HS1
  ihave HS2 := (sendFull_down J 2 c _ ⟨_, _, by rfl, by
    refine next_sent J true 1 c _ _ ?_ ?_
    · exact he1
    · exact half_down c (weights J c) (J.x c) (J.ew c) 1⟩) $$ HS2
  -- Step 2: both transfers started, their contributions computed, both waited for.
  iapply (wp_send_up J K c _ 2 (Fin.ext (k0_dev7_eq c)) _ _ _ _ (by rfl) (by rfl) (by rfl) (by rfl)) $$ [Hw HU2 HS1 HFu2]
  · isplitr; · iexact HR
    isplitl [Hw]; · iexact Hw
    isplitl [HU2]; · iexact HU2
    isplitl [HS1]; · iexact HS1
    iexact HFu2
  iintro ⟨Hw, HUs, HUr⟩
  sl_exec
  iapply (wp_send_down J K c _ 2 (Fin.ext (k0_dev8_eq c)) _ _ _ _ (by rfl) (by rfl) (by rfl) (by rfl)) $$ [Hw HD2 HS2 HFd2]
  · isplitr; · iexact HR
    isplitl [Hw]; · iexact Hw
    isplitl [HD2]; · iexact HD2
    isplitl [HS2]; · iexact HS2
    iexact HFd2
  iintro ⟨Hw, HDs, HDr⟩
  sl_exec
  iapply (wp_wait_sent J K c 2 false _ _ _ (by rfl) (by rfl)) $$ [Hw HUs]
  · isplitr; · iexact HR
    isplitr; · iexact Hlev
    isplitl [Hw]; · iexact Hw
    iexact HUs
  iintro ⟨Hw, HzUs2, HS1⟩
  sl_exec
  iapply (wp_wait_landed J K c 2 false _ _ _ (by rfl) (by rfl)) $$ [Hw HUr]
  · isplitr; · iexact HR
    isplitr; · iexact Hlev
    isplitl [Hw]; · iexact Hw
    iexact HUr
  iintro ⟨Hw, HzUr2, HG2⟩
  sl_exec
  iapply (wp_wait_sent J K c 2 true _ _ _ (by rfl) (by rfl)) $$ [Hw HDs]
  · isplitr; · iexact HR
    isplitr; · iexact Hlev
    isplitl [Hw]; · iexact Hw
    iexact HDs
  iintro ⟨Hw, HzDs2, HS2⟩
  sl_exec
  iapply (wp_wait_landed J K c 2 true _ _ _ (by rfl) (by rfl)) $$ [Hw HDr]
  · isplitr; · iexact HR
    isplitr; · iexact Hlev
    isplitl [Hw]; · iexact Hw
    iexact HDr
  iintro ⟨Hw, HzDr2, HE2⟩
  ihave HG2 := (Entails.of_eq (landed_up J 2 c)) $$ HG2
  icases HG2 with ⟨%g2, %hg2, HG2⟩
  ihave HE2 := (Entails.of_eq (landed_down J 2 c)) $$ HE2
  icases HE2 with ⟨%e2, %he2, HE2⟩
  ihave HS1 := (sendFree_up c) $$ HS1
  icases HS1 with ⟨%f12, HS1⟩
  ihave HS2 := (sendFree_down c) $$ HS2
  icases HS2 with ⟨%f13, HS2⟩
  sl_exec
  ihave HS1 := (sendFull_up J 3 c _ ⟨_, _, by rfl, by
    refine next_sent J false 2 c _ _ ?_ ?_
    · exact hg2
    · exact step_up J c 2⟩) $$ HS1
  ihave HS2 := (sendFull_down J 3 c _ ⟨_, _, by rfl, by
    refine next_sent J true 2 c _ _ ?_ ?_
    · exact he2
    · exact half_down c (weights J c) (J.x c) (J.ew c) 2⟩) $$ HS2
  -- Step 3: both transfers started, their contributions computed, both waited for.
  iapply (wp_send_up J K c _ 3 (Fin.ext (k0_dev9_eq c)) _ _ _ _ (by rfl) (by rfl) (by rfl) (by rfl)) $$ [Hw HU3 HS1 HFu3]
  · isplitr; · iexact HR
    isplitl [Hw]; · iexact Hw
    isplitl [HU3]; · iexact HU3
    isplitl [HS1]; · iexact HS1
    iexact HFu3
  iintro ⟨Hw, HUs, HUr⟩
  sl_exec
  iapply (wp_send_down J K c _ 3 (Fin.ext (k0_dev10_eq c)) _ _ _ _ (by rfl) (by rfl) (by rfl) (by rfl)) $$ [Hw HD3 HS2 HFd3]
  · isplitr; · iexact HR
    isplitl [Hw]; · iexact Hw
    isplitl [HD3]; · iexact HD3
    isplitl [HS2]; · iexact HS2
    iexact HFd3
  iintro ⟨Hw, HDs, HDr⟩
  sl_exec
  iapply (wp_wait_sent J K c 3 false _ _ _ (by rfl) (by rfl)) $$ [Hw HUs]
  · isplitr; · iexact HR
    isplitr; · iexact Hlev
    isplitl [Hw]; · iexact Hw
    iexact HUs
  iintro ⟨Hw, HzUs3, HS1⟩
  sl_exec
  iapply (wp_wait_landed J K c 3 false _ _ _ (by rfl) (by rfl)) $$ [Hw HUr]
  · isplitr; · iexact HR
    isplitr; · iexact Hlev
    isplitl [Hw]; · iexact Hw
    iexact HUr
  iintro ⟨Hw, HzUr3, HG3⟩
  sl_exec
  iapply (wp_wait_sent J K c 3 true _ _ _ (by rfl) (by rfl)) $$ [Hw HDs]
  · isplitr; · iexact HR
    isplitr; · iexact Hlev
    isplitl [Hw]; · iexact Hw
    iexact HDs
  iintro ⟨Hw, HzDs3, HS2⟩
  sl_exec
  iapply (wp_wait_landed J K c 3 true _ _ _ (by rfl) (by rfl)) $$ [Hw HDr]
  · isplitr; · iexact HR
    isplitr; · iexact Hlev
    isplitl [Hw]; · iexact Hw
    iexact HDr
  iintro ⟨Hw, HzDr3, HE3⟩
  ihave HG3 := (Entails.of_eq (landed_up J 3 c)) $$ HG3
  icases HG3 with ⟨%g3, %hg3, HG3⟩
  ihave HE3 := (Entails.of_eq (landed_down J 3 c)) $$ HE3
  icases HE3 with ⟨%e3, %he3, HE3⟩
  ihave HS1 := (sendFree_up c) $$ HS1
  icases HS1 with ⟨%f14, HS1⟩
  ihave HS2 := (sendFree_down c) $$ HS2
  icases HS2 with ⟨%f15, HS2⟩
  sl_exec
  ihave HS1 := (sendFull_up J 4 c _ ⟨_, _, by rfl, by
    refine next_sent J false 3 c _ _ ?_ ?_
    · exact hg3
    · exact step_up J c 3⟩) $$ HS1
  ihave HS2 := (sendFull_down J 4 c _ ⟨_, _, by rfl, by
    refine next_sent J true 3 c _ _ ?_ ?_
    · exact he3
    · exact half_down c (weights J c) (J.x c) (J.ew c) 3⟩) $$ HS2
  -- Step 4: both transfers started, their contributions computed, both waited for.
  iapply (wp_send_up J K c _ 4 (Fin.ext (k0_dev11_eq c)) _ _ _ _ (by rfl) (by rfl) (by rfl) (by rfl)) $$ [Hw HU4 HS1 HFu4]
  · isplitr; · iexact HR
    isplitl [Hw]; · iexact Hw
    isplitl [HU4]; · iexact HU4
    isplitl [HS1]; · iexact HS1
    iexact HFu4
  iintro ⟨Hw, HUs, HUr⟩
  sl_exec
  iapply (wp_send_down J K c _ 4 (Fin.ext (k0_dev12_eq c)) _ _ _ _ (by rfl) (by rfl) (by rfl) (by rfl)) $$ [Hw HD4 HS2 HFd4]
  · isplitr; · iexact HR
    isplitl [Hw]; · iexact Hw
    isplitl [HD4]; · iexact HD4
    isplitl [HS2]; · iexact HS2
    iexact HFd4
  iintro ⟨Hw, HDs, HDr⟩
  sl_exec
  iapply (wp_wait_sent J K c 4 false _ _ _ (by rfl) (by rfl)) $$ [Hw HUs]
  · isplitr; · iexact HR
    isplitr; · iexact Hlev
    isplitl [Hw]; · iexact Hw
    iexact HUs
  iintro ⟨Hw, HzUs4, HS1⟩
  sl_exec
  iapply (wp_wait_landed J K c 4 false _ _ _ (by rfl) (by rfl)) $$ [Hw HUr]
  · isplitr; · iexact HR
    isplitr; · iexact Hlev
    isplitl [Hw]; · iexact Hw
    iexact HUr
  iintro ⟨Hw, HzUr4, HG4⟩
  sl_exec
  iapply (wp_wait_sent J K c 4 true _ _ _ (by rfl) (by rfl)) $$ [Hw HDs]
  · isplitr; · iexact HR
    isplitr; · iexact Hlev
    isplitl [Hw]; · iexact Hw
    iexact HDs
  iintro ⟨Hw, HzDs4, HS2⟩
  sl_exec
  iapply (wp_wait_landed J K c 4 true _ _ _ (by rfl) (by rfl)) $$ [Hw HDr]
  · isplitr; · iexact HR
    isplitr; · iexact Hlev
    isplitl [Hw]; · iexact Hw
    iexact HDr
  iintro ⟨Hw, HzDr4, HE4⟩
  ihave HG4 := (Entails.of_eq (landed_up J 4 c)) $$ HG4
  icases HG4 with ⟨%g4, %hg4, HG4⟩
  ihave HE4 := (Entails.of_eq (landed_down J 4 c)) $$ HE4
  icases HE4 with ⟨%e4, %he4, HE4⟩
  ihave HS1 := (sendFree_up c) $$ HS1
  icases HS1 with ⟨%f16, HS1⟩
  ihave HS2 := (sendFree_down c) $$ HS2
  icases HS2 with ⟨%f17, HS2⟩
  sl_exec
  ihave HS1 := (sendFull_up J 5 c _ ⟨_, _, by rfl, by
    refine next_sent J false 4 c _ _ ?_ ?_
    · exact hg4
    · exact step_up J c 4⟩) $$ HS1
  ihave HS2 := (sendFull_down J 5 c _ ⟨_, _, by rfl, by
    refine next_sent J true 4 c _ _ ?_ ?_
    · exact he4
    · exact half_down c (weights J c) (J.x c) (J.ew c) 4⟩) $$ HS2
  -- Step 5: both transfers started, their contributions computed, both waited for.
  iapply (wp_send_up J K c _ 5 (Fin.ext (k0_dev13_eq c)) _ _ _ _ (by rfl) (by rfl) (by rfl) (by rfl)) $$ [Hw HU5 HS1 HFu5]
  · isplitr; · iexact HR
    isplitl [Hw]; · iexact Hw
    isplitl [HU5]; · iexact HU5
    isplitl [HS1]; · iexact HS1
    iexact HFu5
  iintro ⟨Hw, HUs, HUr⟩
  sl_exec
  iapply (wp_send_down J K c _ 5 (Fin.ext (k0_dev14_eq c)) _ _ _ _ (by rfl) (by rfl) (by rfl) (by rfl)) $$ [Hw HD5 HS2 HFd5]
  · isplitr; · iexact HR
    isplitl [Hw]; · iexact Hw
    isplitl [HD5]; · iexact HD5
    isplitl [HS2]; · iexact HS2
    iexact HFd5
  iintro ⟨Hw, HDs, HDr⟩
  sl_exec
  iapply (wp_wait_sent J K c 5 false _ _ _ (by rfl) (by rfl)) $$ [Hw HUs]
  · isplitr; · iexact HR
    isplitr; · iexact Hlev
    isplitl [Hw]; · iexact Hw
    iexact HUs
  iintro ⟨Hw, HzUs5, HS1⟩
  sl_exec
  iapply (wp_wait_landed J K c 5 false _ _ _ (by rfl) (by rfl)) $$ [Hw HUr]
  · isplitr; · iexact HR
    isplitr; · iexact Hlev
    isplitl [Hw]; · iexact Hw
    iexact HUr
  iintro ⟨Hw, HzUr5, HG5⟩
  sl_exec
  iapply (wp_wait_sent J K c 5 true _ _ _ (by rfl) (by rfl)) $$ [Hw HDs]
  · isplitr; · iexact HR
    isplitr; · iexact Hlev
    isplitl [Hw]; · iexact Hw
    iexact HDs
  iintro ⟨Hw, HzDs5, HS2⟩
  sl_exec
  iapply (wp_wait_landed J K c 5 true _ _ _ (by rfl) (by rfl)) $$ [Hw HDr]
  · isplitr; · iexact HR
    isplitr; · iexact Hlev
    isplitl [Hw]; · iexact Hw
    iexact HDr
  iintro ⟨Hw, HzDr5, HE5⟩
  ihave HG5 := (Entails.of_eq (landed_up J 5 c)) $$ HG5
  icases HG5 with ⟨%g5, %hg5, HG5⟩
  ihave HE5 := (Entails.of_eq (landed_down J 5 c)) $$ HE5
  icases HE5 with ⟨%e5, %he5, HE5⟩
  ihave HS1 := (sendFree_up c) $$ HS1
  icases HS1 with ⟨%f18, HS1⟩
  ihave HS2 := (sendFree_down c) $$ HS2
  icases HS2 with ⟨%f19, HS2⟩
  sl_exec
  ihave HS1 := (sendFull_up J 6 c _ ⟨_, _, by rfl, by
    refine next_sent J false 5 c _ _ ?_ ?_
    · exact hg5
    · exact step_up J c 5⟩) $$ HS1
  ihave HS2 := (sendFull_down J 6 c _ ⟨_, _, by rfl, by
    refine next_sent J true 5 c _ _ ?_ ?_
    · exact he5
    · exact half_down c (weights J c) (J.x c) (J.ew c) 5⟩) $$ HS2
  -- Step 6: both transfers started, their contributions computed, both waited for.
  iapply (wp_send_up J K c _ 6 (Fin.ext (k0_dev15_eq c)) _ _ _ _ (by rfl) (by rfl) (by rfl) (by rfl)) $$ [Hw HU6 HS1 HFu6]
  · isplitr; · iexact HR
    isplitl [Hw]; · iexact Hw
    isplitl [HU6]; · iexact HU6
    isplitl [HS1]; · iexact HS1
    iexact HFu6
  iintro ⟨Hw, HUs, HUr⟩
  sl_exec
  iapply (wp_send_down J K c _ 6 (Fin.ext (k0_dev16_eq c)) _ _ _ _ (by rfl) (by rfl) (by rfl) (by rfl)) $$ [Hw HD6 HS2 HFd6]
  · isplitr; · iexact HR
    isplitl [Hw]; · iexact Hw
    isplitl [HD6]; · iexact HD6
    isplitl [HS2]; · iexact HS2
    iexact HFd6
  iintro ⟨Hw, HDs, HDr⟩
  sl_exec
  iapply (wp_wait_sent J K c 6 false _ _ _ (by rfl) (by rfl)) $$ [Hw HUs]
  · isplitr; · iexact HR
    isplitr; · iexact Hlev
    isplitl [Hw]; · iexact Hw
    iexact HUs
  iintro ⟨Hw, HzUs6, HS1⟩
  sl_exec
  iapply (wp_wait_landed J K c 6 false _ _ _ (by rfl) (by rfl)) $$ [Hw HUr]
  · isplitr; · iexact HR
    isplitr; · iexact Hlev
    isplitl [Hw]; · iexact Hw
    iexact HUr
  iintro ⟨Hw, HzUr6, HG6⟩
  sl_exec
  iapply (wp_wait_sent J K c 6 true _ _ _ (by rfl) (by rfl)) $$ [Hw HDs]
  · isplitr; · iexact HR
    isplitr; · iexact Hlev
    isplitl [Hw]; · iexact Hw
    iexact HDs
  iintro ⟨Hw, HzDs6, HS2⟩
  sl_exec
  iapply (wp_wait_landed J K c 6 true _ _ _ (by rfl) (by rfl)) $$ [Hw HDr]
  · isplitr; · iexact HR
    isplitr; · iexact Hlev
    isplitl [Hw]; · iexact Hw
    iexact HDr
  iintro ⟨Hw, HzDr6, HE6⟩
  ihave HG6 := (Entails.of_eq (landed_up J 6 c)) $$ HG6
  icases HG6 with ⟨%g6, %hg6, HG6⟩
  ihave HE6 := (Entails.of_eq (landed_down J 6 c)) $$ HE6
  icases HE6 with ⟨%e6, %he6, HE6⟩
  sl_exec!
  ihave HO := (out_held J c _ ⟨_, _, by rfl, by
    refine last_total J true c _ _ ?_ ?_
    · exact he6
    · exact half_down c (weights J c) (J.x c) (J.ew c) 6, by
    refine last_total J false c _ _ ?_ ?_
    · exact hg6
    · exact step_up J c 6⟩) $$ HO
  ihave HG0 := (up_back 0 c _) $$ HG0
  ihave HE0 := (down_back 0 c _) $$ HE0
  ihave HG1 := (up_back 1 c _) $$ HG1
  ihave HE1 := (down_back 1 c _) $$ HE1
  ihave HG2 := (up_back 2 c _) $$ HG2
  ihave HE2 := (down_back 2 c _) $$ HE2
  ihave HG3 := (up_back 3 c _) $$ HG3
  ihave HE3 := (down_back 3 c _) $$ HE3
  ihave HG4 := (up_back 4 c _) $$ HG4
  ihave HE4 := (down_back 4 c _) $$ HE4
  ihave HG5 := (up_back 5 c _) $$ HG5
  ihave HE5 := (down_back 5 c _) $$ HE5
  ihave HG6 := (up_back 6 c _) $$ HG6
  ihave HE6 := (down_back 6 c _) $$ HE6
  rw [wp_ret]
  imodintro
  iapply Hk
  unfold bodyPost
  rw [landing_eq, landing_eq, zeros_eq, bigSep_steps, bigSep_steps, bigSep_steps, bigSep_steps]
  isplitl [Hw]; · iexact Hw
  isplitl [HzB HzUs0 HzUs1 HzUs2 HzUs3 HzUs4 HzUs5 HzUs6 HzUr0 HzUr1 HzUr2 HzUr3 HzUr4 HzUr5 HzUr6 HzDs0 HzDs1 HzDs2 HzDs3 HzDs4 HzDs5 HzDs6 HzDr0 HzDr1 HzDr2 HzDr3 HzDr4 HzDr5 HzDr6]
  · isplitl [HzB]; · iexact HzB
    isplitl [HzUs0 HzUs1 HzUs2 HzUs3 HzUs4 HzUs5 HzUs6 HzUr0 HzUr1 HzUr2 HzUr3 HzUr4 HzUr5 HzUr6]
    · isplitl [HzUs0 HzUs1 HzUs2 HzUs3 HzUs4 HzUs5 HzUs6]
      · isplitl [HzUs0]; · iexact HzUs0
        isplitl [HzUs1]; · iexact HzUs1
        isplitl [HzUs2]; · iexact HzUs2
        isplitl [HzUs3]; · iexact HzUs3
        isplitl [HzUs4]; · iexact HzUs4
        isplitl [HzUs5]; · iexact HzUs5
        iexact HzUs6
      · isplitl [HzUr0]; · iexact HzUr0
        isplitl [HzUr1]; · iexact HzUr1
        isplitl [HzUr2]; · iexact HzUr2
        isplitl [HzUr3]; · iexact HzUr3
        isplitl [HzUr4]; · iexact HzUr4
        isplitl [HzUr5]; · iexact HzUr5
        iexact HzUr6
    · isplitl [HzDs0 HzDs1 HzDs2 HzDs3 HzDs4 HzDs5 HzDs6]
      · isplitl [HzDs0]; · iexact HzDs0
        isplitl [HzDs1]; · iexact HzDs1
        isplitl [HzDs2]; · iexact HzDs2
        isplitl [HzDs3]; · iexact HzDs3
        isplitl [HzDs4]; · iexact HzDs4
        isplitl [HzDs5]; · iexact HzDs5
        iexact HzDs6
      · isplitl [HzDr0]; · iexact HzDr0
        isplitl [HzDr1]; · iexact HzDr1
        isplitl [HzDr2]; · iexact HzDr2
        isplitl [HzDr3]; · iexact HzDr3
        isplitl [HzDr4]; · iexact HzDr4
        isplitl [HzDr5]; · iexact HzDr5
        iexact HzDr6
  isplitl [HG0 HG1 HG2 HG3 HG4 HG5 HG6 HE0 HE1 HE2 HE3 HE4 HE5 HE6]
  · isplitl [HG0 HG1 HG2 HG3 HG4 HG5 HG6]
    · isplitl [HG0]; · iexact HG0
      isplitl [HG1]; · iexact HG1
      isplitl [HG2]; · iexact HG2
      isplitl [HG3]; · iexact HG3
      isplitl [HG4]; · iexact HG4
      isplitl [HG5]; · iexact HG5
      iexact HG6
    · isplitl [HE0]; · iexact HE0
      isplitl [HE1]; · iexact HE1
      isplitl [HE2]; · iexact HE2
      isplitl [HE3]; · iexact HE3
      isplitl [HE4]; · iexact HE4
      isplitl [HE5]; · iexact HE5
      iexact HE6
  isplitl [HX HRW HIX HEW HO]
  · isplitl [HX]; · iexact HX
    isplitl [HRW]; · iexact HRW
    isplitl [HIX]; · iexact HIX
    isplitl [HEW]; · iexact HEW
    iexact HO
  isplitl [HW]; · iexists _; iexact HW
  isplitl [HS1]; · iexact HS1
  iexact HS2

end Cert.KernelIdeal.MoeRing

end
-- ==== Proof.KernelIdeal.Launch.lean ====
module

public import proofs.«01_k».proof.Proof.KernelIdeal.Body

/-!
The launch of the eight kernels: the launch's resources dealt to the devices, the body at its one point, and the run of the
whole program.
-/

@[expose] public section

set_option maxRecDepth 16384

noncomputable section

namespace Cert.KernelIdeal.MoeRing

open Cert.KernelIdeal Cert.KernelIdeal.Gen
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Families over the cells -/

theorem bools_eq (Φ : Bool → sProp 𝕄) : bigSep Finset.univ Φ = iprop(Φ false ∗ Φ true) :=
  bigSep_univ_eq_bigSepL [false, true] (by decide) (by decide) Φ
theorem cells_eq (Φ : Option Lane → sProp 𝕄) : bigSep Finset.univ Φ = iprop(Φ none ∗ bigSep Finset.univ fun k : Lane => Φ (some k)) := by
  rw [show (Finset.univ : Finset (Option Lane)) = insert none (Finset.univ.map Function.Embedding.some) from by ext x; cases x <;> simp,
    BI.bigSep_insert (by simp), bigSep_map]
  rfl
/-- A family over the transfers' semaphores, by direction and side. -/
theorem lanes_eq (Φ : Lane → sProp 𝕄) : bigSep Finset.univ Φ
    = iprop(((bigSep Finset.univ fun s : Fin 7 => Φ (false, false, s)) ∗ (bigSep Finset.univ fun s : Fin 7 => Φ (false, true, s)))
      ∗ ((bigSep Finset.univ fun s : Fin 7 => Φ (true, false, s)) ∗ (bigSep Finset.univ fun s : Fin 7 => Φ (true, true, s)))) := by
  rw [BI.bigSep_univ_prod, bools_eq, BI.bigSep_univ_prod, BI.bigSep_univ_prod, bools_eq, bools_eq]

theorem csem_injective : Function.Injective csem := by
  rintro (_ | k) (_ | k') h
  · rfl
  · cases h
  · cases h
  · exact congrArg some (dsem_injective (by injection h))
theorem kcell_injective : Function.Injective (kcell : Dev nD × Option Lane → GSem nD τ sig) := by
  rintro ⟨c, k⟩ ⟨c', k'⟩ h
  have h1 : c = c' := congrArg (fun g : GSem nD τ sig => g.1.1) h
  have h2 : k = k' := csem_injective (congrArg Prod.snd h)
  rw [h1, h2]
theorem bar_eq_iff {a b : Dev nD} : Iff (barCell a = barCell b) (a = b) :=
  ⟨fun h => congrArg (fun g : GSem nD τ sig => g.1.1) h, fun h => h ▸ rfl⟩
theorem xfer_eq_iff {a b : Dev nD} {k k' : Lane} : Iff (xferCell a k = xferCell b k') (a = b ∧ k = k') :=
  ⟨fun h => by
    have := kcell_injective (a₁ := (a, some k)) (a₂ := (b, some k')) h
    injection this with h1 h2; injection h2 with h2; exact ⟨h1, h2⟩, fun ⟨h, h'⟩ => by rw [h, h']⟩

/-! ## The landing slots of a direction are its whole array -/

theorem slot_set_up (s : Fin 7) : (slotM false s).view.set = (slotRect s).set :=
  (View.set_reshape ((View.whole cc0_scratch3).slice (slotRect s)) (s' := S128x1024) _).trans (View.set_slice_whole cc0_scratch3 (slotRect s))
theorem slot_set_down (s : Fin 7) : (slotM true s).view.set = (slotRect s).set :=
  (View.set_reshape ((View.whole cc0_scratch4).slice (slotRect s)) (s' := S128x1024) _).trans (View.set_slice_whole cc0_scratch4 (slotRect s))
theorem slots_disjoint (a b : Fin 7) (h : a ≠ b) : Disjoint (slotRect a).set (slotRect b).set :=
  Ring.lead_disjoint (s := S7x128x1024) (NB := 7) (0 : Fin 3) 1 (fun s => ![s.val, 0, 0]) S1x128x1024.size slot_inb
    (fun b => (Nat.one_mul _).symm) rfl a b h
theorem slots_cover : Finset.univ.biUnion (fun s : Fin 7 => (slotRect s).set) = Finset.univ :=
  Ring.lead_cover (s := S7x128x1024) (NB := 7) (0 : Fin 3) 1 (fun s => ![s.val, 0, 0]) S1x128x1024.size slot_inb
    (fun b => (Nat.one_mul _).symm) (by intro b a h; revert b a; decide) rfl (by decide) (by decide)

theorem some_slot (d : Bool) (s : Fin 7) (c : Dev nD) (f) : slotPts d s c f ⊢ (iprop(∃ f, slotPts d s c f) : sProp 𝕄) := by
  iintro H; iexists f; iexact H
/-- An array of landing slots held whole is its slots, and the slots, each at some contents, are the array at some
    contents. -/
theorem slot_eq_up (s : Fin 7) (c : Dev nD) (f : Vec F S7x128x1024 .bf16) :
    (slotPts false s c f : sProp 𝕄) = (((c : Thread nD τ).loc cc0_scratch3) ↦[(slotRect s).set]{fullShare} f) := by
  unfold slotPts; rw [slot_set_up]; rfl
theorem split_up (c : Dev nD) (f : Vec F S7x128x1024 .bf16) : (ptM c (Memref.whole cc0_scratch3) f : sProp 𝕄) ⊢ landing false c := by
  have h : (ptM c (Memref.whole cc0_scratch3) f : sProp 𝕄) = bigSep Finset.univ fun s : Fin 7 => ((c : Thread nD τ).loc cc0_scratch3) ↦[(slotRect s).set]{fullShare} f :=
    Ring.pointsTo_blocks (ℓ := (c : Thread nD τ).loc cc0_scratch3) (fun s : Fin 7 => (slotRect s).set) (fun a b h => slots_disjoint a b h) slots_cover f
  rw [h]
  unfold landing
  refine bigSep_mono fun s _ => ?_
  exact (Entails.of_eq (slot_eq_up s c f).symm).trans (some_slot false s c f)
theorem join_up (c : Dev nD) : landing false c ⊢ (iprop(∃ f : Vec F S7x128x1024 .bf16, ptM c (Memref.whole cc0_scratch3) f) : sProp 𝕄) := by
  have h := Ring.pointsTo_blocks_join_exists (nD := nD) (τ := τ) (sig := sig) (Ix := Unit) (Val := Elt F) (Name := ℕ) (U := UU) (Lvl := ℕ)
    (ℓ := (c : Thread nD τ).loc cc0_scratch3) (q := fullShare) (fun s : Fin 7 => (slotRect s).set)
    (fun a b h => slots_disjoint a b h) slots_cover (fun _ => Classical.arbitrary _)
  refine (bigSep_mono fun s _ => ?_).trans h
  exact Entails.of_eq (congrArg (fun Φ : Vec F S7x128x1024 .bf16 → sProp 𝕄 => iprop(∃ f, Φ f)) (funext fun f => slot_eq_up s c f))
theorem slot_eq_down (s : Fin 7) (c : Dev nD) (f : Vec F S7x128x1024 .bf16) :
    (slotPts true s c f : sProp 𝕄) = (((c : Thread nD τ).loc cc0_scratch4) ↦[(slotRect s).set]{fullShare} f) := by
  unfold slotPts; rw [slot_set_down]; rfl
theorem split_down (c : Dev nD) (f : Vec F S7x128x1024 .bf16) : (ptM c (Memref.whole cc0_scratch4) f : sProp 𝕄) ⊢ landing true c := by
  have h : (ptM c (Memref.whole cc0_scratch4) f : sProp 𝕄) = bigSep Finset.univ fun s : Fin 7 => ((c : Thread nD τ).loc cc0_scratch4) ↦[(slotRect s).set]{fullShare} f :=
    Ring.pointsTo_blocks (ℓ := (c : Thread nD τ).loc cc0_scratch4) (fun s : Fin 7 => (slotRect s).set) (fun a b h => slots_disjoint a b h) slots_cover f
  rw [h]
  unfold landing
  refine bigSep_mono fun s _ => ?_
  exact (Entails.of_eq (slot_eq_down s c f).symm).trans (some_slot true s c f)
theorem join_down (c : Dev nD) : landing true c ⊢ (iprop(∃ f : Vec F S7x128x1024 .bf16, ptM c (Memref.whole cc0_scratch4) f) : sProp 𝕄) := by
  have h := Ring.pointsTo_blocks_join_exists (nD := nD) (τ := τ) (sig := sig) (Ix := Unit) (Val := Elt F) (Name := ℕ) (U := UU) (Lvl := ℕ)
    (ℓ := (c : Thread nD τ).loc cc0_scratch4) (q := fullShare) (fun s : Fin 7 => (slotRect s).set)
    (fun a b h => slots_disjoint a b h) slots_cover (fun _ => Classical.arbitrary _)
  refine (bigSep_mono fun s _ => ?_).trans h
  exact Entails.of_eq (congrArg (fun Φ : Vec F S7x128x1024 .bf16 → sProp 𝕄 => iprop(∃ f, Φ f)) (funext fun f => slot_eq_down s c f))

/-! ## The inputs, and the body's data -/

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-- Each device's blocks of the arguments, as staged. -/
def inputs : Inputs F where
  x c := (win0_0.blk (0 : Fin 1)).view.read (Elt F) (m ((c : Thread nD τ).loc main_arg0))
  rw c := (win0_1.blk (0 : Fin 1)).view.read (Elt F) (m ((c : Thread nD τ).loc main_arg1))
  idx c := (win0_2.blk (0 : Fin 1)).view.read (Elt F) (m ((c : Thread nD τ).loc main_arg2))
  ew c := (win0_3.blk (0 : Fin 1)).view.read (Elt F) (m ((c : Thread nD τ).loc main_arg3))

/-- A device's part of the protocol once its cells are registered. -/
def linear (c : Dev nD) : sProp 𝕄 :=
  iprop((atPos ER (barCell c) 0 ∅ 0 ∗ bigSep Finset.univ fun k : Lane => atPos ER (xferCell c k) 0 ∅ 0)
    ∗ (dutyTok ER (barCell (prv c)) 0 false ∗ dutyTok ER (barCell (nxt c)) 0 true)
    ∗ bigSep Finset.univ fun k : Lane => dutyTok ER (xferCell (if k.2.1 then tgt k.1 c else c) k) 0 false)

/-- What a device starts from. -/
def start (c : Dev nD) : sProp 𝕄 :=
  iprop((∃ K, records (inputs m) K ∗ linear c) ∗ levAts L lv
    ∗ cred (tallyAt (barCell c) () 2) ∗ (bigSep Finset.univ fun s : Fin 7 => cred (tallyAt (xferCell c (false, true, s)) () N))
    ∗ bigSep Finset.univ fun s : Fin 7 => cred (tallyAt (xferCell c (true, true, s)) () N))

/-- The five scratch buffers at any contents. -/
def scratch (c : Dev nD) : sProp 𝕄 :=
  iprop((∃ f : Vec F S2048x4 .f32, ptM c (Memref.whole cc0_scratch0) f) ∗ (∃ f : Vec F S128x1024 .bf16, ptM c (Memref.whole cc0_scratch1) f)
    ∗ (∃ f : Vec F S128x1024 .bf16, ptM c (Memref.whole cc0_scratch2) f) ∗ (∃ f : Vec F S7x128x1024 .bf16, ptM c (Memref.whole cc0_scratch3) f)
    ∗ (∃ f : Vec F S7x128x1024 .bf16, ptM c (Memref.whole cc0_scratch4) f))

def Φ₀ (c : Dev nD) : sProp 𝕄 := iprop(start m c ∗ scratch c)
def Φ₁ (c : Dev nD) : sProp 𝕄 := iprop((semVal (barCell c) 0 ∗ bigSep Finset.univ fun k : Lane => semVal (xferCell c k) 0) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m).x c
    | ⟨1, _⟩ => (inputs m).rw c
    | ⟨2, _⟩ => (inputs m).idx c
    | ⟨3, _⟩ => (inputs m).ew c
    | ⟨4, _⟩ => outOf (inputs m) c
  Φ t := match t with
    | ⟨0, _⟩ => Φ₀ m c
    | ⟨_ + 1, _⟩ => Φ₁ c
  q _ := fullShare
  owed t := match t with
    | ⟨0, _⟩ => owedAll c
    | ⟨_ + 1, _⟩ => 0

/-- The transfers of one direction, as the body takes them. -/
theorem lanes_start (c : Dev nD) (d : Bool) : iprop((bigSep Finset.univ fun s : Fin 7 => atPos ER (xferCell c (d, false, s)) 0 ∅ 0)
      ∗ (bigSep Finset.univ fun s : Fin 7 => atPos ER (xferCell c (d, true, s)) 0 ∅ 0)
      ∗ (bigSep Finset.univ fun s : Fin 7 => dutyTok ER (xferCell c (d, false, s)) 0 false)
      ∗ (bigSep Finset.univ fun s : Fin 7 => dutyTok ER (xferCell (tgt d c) (d, true, s)) 0 false)
      ∗ (bigSep Finset.univ fun s : Fin 7 => cred (tallyAt (xferCell c (d, true, s)) () N)))
    ⊢ (bigSep Finset.univ fun s : Fin 7 => laneStart c d s : sProp 𝕄) := by
  unfold laneStart
  rw [bigSep_sep', bigSep_sep', bigSep_sep', bigSep_sep']

/-! ## The body at its point -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]
theorem stg_intro (c : Dev nD) (b : Ref sig .tc) (X : b.ty.Contents (Elt F)) : ptM c (Memref.whole b) X ⊢ (stg c b X : sProp 𝕄) := by
  iintro H; iexists X; isplitr; · ipureintro; rfl
  iexact H

/-- What the library hands the body, and what the body hands back. -/
def before (c : Dev nD) : sProp 𝕄 :=
  iprop(Φ₀ m c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
def after (c : Dev nD) : sProp 𝕄 :=
  iprop(Φ₁ c ∗ (dats m ρ 0 c).owesAt () t0_0.succ ∗ stg c cc0_stg0_0 ((inputs m).x c) ∗ stg c cc0_stg1_0 ((inputs m).rw c)
    ∗ stg c cc0_stg2_0 ((inputs m).idx c) ∗ stg c cc0_stg3_0 ((inputs m).ew c) ∗ stg c cc0_stg4_0 (outOf (inputs m) c))

theorem staged0 (c : Dev nD) (d) : (dats m ρ 0 c).before (0 : Fin 5) t0_0 d = (inputs m).x c := by
  unfold Dat.before; rw [if_pos (fetch0_0 t0_0)]; rfl
theorem staged1 (c : Dev nD) (d) : (dats m ρ 0 c).before (1 : Fin 5) t0_0 d = (inputs m).rw c := by
  unfold Dat.before; rw [if_pos (fetch0_1 t0_0)]; rfl
theorem staged2 (c : Dev nD) (d) : (dats m ρ 0 c).before (2 : Fin 5) t0_0 d = (inputs m).idx c := by
  unfold Dat.before; rw [if_pos (fetch0_2 t0_0)]; rfl
theorem staged3 (c : Dev nD) (d) : (dats m ρ 0 c).before (3 : Fin 5) t0_0 d = (inputs m).ew c := by
  unfold Dat.before; rw [if_pos (fetch0_3 t0_0)]; rfl

theorem body_enter (c : Dev nD) : before m ρ c ⊢ iprop(∃ K, bodyPre (inputs m) K c) := by
  unfold before Φ₀ start scratch linear Dat.owesAt Pipeline.owesWithin
  rw [show (dats m ρ 0 c).owed t0_0.castSucc = owedAll c from rfl, lanes_eq, lanes_eq]
  iintro ⟨⟨⟨⟨%K, HR, ⟨HaB, ⟨⟨HaUs, HaUr⟩, ⟨HaDs, HaDr⟩⟩⟩, ⟨HtP, HtN⟩, ⟨⟨HtUs, HtUr⟩, ⟨HtDs, HtDr⟩⟩⟩, Hlev, HcB, HcU, HcD⟩, ⟨H0, ⟨%f1, H1⟩, ⟨%f2, H2⟩, ⟨%f3, H3⟩, ⟨%f4, H4⟩⟩⟩,
    ⟨%W, %hW, HO⟩, ⟨%d0, %g0, %hg0, Hx⟩, ⟨%d1, %g1, %hg1, Hrw⟩, ⟨%d2, %g2, %hg2, Hix⟩, ⟨%d3, %g3, %hg3, Hew⟩, ⟨%d4, %g4, %hg4, Hout⟩⟩
  obtain rfl : g0 = (inputs m).x c := hg0.trans (staged0 m ρ c d0)
  obtain rfl : g1 = (inputs m).rw c := hg1.trans (staged1 m ρ c d1)
  obtain rfl : g2 = (inputs m).idx c := hg2.trans (staged2 m ρ c d2)
  obtain rfl : g3 = (inputs m).ew c := hg3.trans (staged3 m ρ c d3)
  iexists K
  unfold bodyPre owing
  isplitl [HR Hlev]; · isplitl [HR] <;> iassumption
  isplitl [HO]; · iexists W; iexact HO
  isplitl [HaUs HaUr HaDs HaDr HtUs HtUr HtDs HtDr HcU HcD]
  · isplitl [HaUs HaUr HtUs HtUr HcU]
    · iapply (lanes_start c false)
      isplitl [HaUs]; · iexact HaUs
      isplitl [HaUr]; · iexact HaUr
      isplitl [HtUs]; · iexact HtUs
      isplitl [HtUr]; · iexact HtUr
      iexact HcU
    · iapply (lanes_start c true)
      isplitl [HaDs]; · iexact HaDs
      isplitl [HaDr]; · iexact HaDr
      isplitl [HtDs]; · iexact HtDs
      isplitl [HtDr]; · iexact HtDr
      iexact HcD
  isplitl [HaB HcB HtP HtN]
  · isplitl [HaB]; · iexact HaB
    isplitl [HcB]; · iexact HcB
    isplitl [HtP] <;> iassumption
  isplitl [H3 H4]
  · isplitl [H3]
    · iapply (split_up c f3); iexact H3
    · iapply (split_down c f4); iexact H4
  isplitl [Hx Hrw Hix Hew Hout]
  · isplitl [Hx]; · iexact Hx
    isplitl [Hrw]; · iexact Hrw
    isplitl [Hix]; · iexact Hix
    isplitl [Hew]; · iexact Hew
    iexists g4; iexact Hout
  isplitl [H0]; · iexact H0
  unfold sendFree
  isplitl [H1]
  · iexists f1; iapply (Entails.of_eq (sendPts_up c f1).symm); iexact H1
  · iexists f2; iapply (Entails.of_eq (sendPts_down c f2).symm); iexact H2

theorem body_leave (c : Dev nD) : bodyPost (inputs m) c ⊢ after m ρ c := by
  unfold after Φ₁ scratch bodyPost Dat.owesAt Pipeline.owesWithin owing
  rw [show (dats m ρ 0 c).owed t0_0.succ = 0 from rfl]
  iintro ⟨⟨%W, HO⟩, Hz, ⟨HLu, HLd⟩, ⟨Hx, Hrw, Hix, Hew, Hout⟩, H0, H1, H2⟩
  isplitl [Hz HLu HLd H0 H1 H2]
  · isplitl [Hz]; · iexact Hz
    isplitl [H0]; · iexact H0
    isplitl [H1]; · iapply (sendFree_up c); iexact H1
    isplitl [H2]; · iapply (sendFree_down c); iexact H2
    isplitl [HLu]; · iapply (join_up c); iexact HLu
    iapply (join_down c); iexact HLd
  isplitl [HO]
  · iexists W
    isplitr; · ipureintro; exact fun _ _ => Or.inl trivial
    iexact HO
  isplitl [Hx]; · iapply (stg_intro c cc0_stg0_0 ((inputs m).x c)); iexact Hx
  isplitl [Hrw]; · iapply (stg_intro c cc0_stg1_0 ((inputs m).rw c)); iexact Hrw
  isplitl [Hix]; · iapply (stg_intro c cc0_stg2_0 ((inputs m).idx c)); iexact Hix
  isplitl [Hew]; · iapply (stg_intro c cc0_stg3_0 ((inputs m).ew c)); iexact Hew
  iapply (stg_intro c cc0_stg4_0 (outOf (inputs m) c)); iexact Hout

set_option maxHeartbeats 2000000 in
attribute [local irreducible] outOf in
/-- The body's obligation on device `c`. -/
theorem body_obligation (c : Dev nD) : BodyObligation (dats (F := F) m ρ 0 c) (defs₀ (F := F)) 𝒱₀ () Set.univ := fun t => by
  rw [fin_N0 t]
  rw [show (∀ Φ : Fin cfg0.W → sProp 𝕄, bigSep Finset.univ Φ = iprop(Φ (0 : Fin 5) ∗ Φ (1 : Fin 5) ∗ Φ (2 : Fin 5) ∗ Φ (3 : Fin 5) ∗ Φ (4 : Fin 5))) from bigSep_W0,
    show (∀ Φ : Fin cfg0.W → sProp 𝕄, bigSep Finset.univ Φ = iprop(Φ (0 : Fin 5) ∗ Φ (1 : Fin 5) ∗ Φ (2 : Fin 5) ∗ Φ (3 : Fin 5) ∗ Φ (4 : Fin 5))) from bigSep_W0]
  simp only [owns_whole_eq]
  show before m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => after m ρ c)
  iintro H
  ihave H := (body_enter m ρ c) $$ H
  icases H with ⟨%K, H⟩
  iapply (body_run (inputs m) K c fun _ => after m ρ c)
  isplitl [H]; · iexact H
  iintro H; iapply (body_leave m ρ c); iexact H

end Cert.KernelIdeal.MoeRing

end
-- ==== Proof.KernelIdeal.Run.lean ====
module

public import proofs.«01_k».proof.Proof.KernelIdeal.Launch
public import Idealize.ShloMosaic.Lib.Pipeline.CollectiveSegs

/-!
The run of the whole program: the protocol's cells set up on all eight devices at once, the credit each is launched with, and
what every final state holds.
-/

@[expose] public section

set_option maxRecDepth 16384

noncomputable section

namespace Cert.KernelIdeal.MoeRing

open Cert.KernelIdeal Cert.KernelIdeal.Gen
open Idealize.ShloMosaic Idealize.ShloMosaic.Tactic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The cells and tokens minted -/

theorem ownSemFacts : Pipeline.OwnSemFacts cfg0.spec osem := by decide
theorem share_eq (c : Dev nD) (w : Fin cfg0.W) : (dats m ρ 0 c).share w = fullShare := by unfold Dat.share; split <;> rfl

def ringCells : Finset (GSem nD τ sig) := Finset.univ.map ⟨kcell, kcell_injective⟩

/-- A device's own cells' duties: its barrier's two, and one of every transfer's semaphore. -/
abbrev Duty : Type := Bool ⊕ Lane
abbrev tokOf (cj : Dev nD × Duty) : GSem nD τ sig × ℕ × Bool := match cj.2 with
  | .inl d => (barCell cj.1, 0, d)
  | .inr k => (xferCell cj.1 k, 0, false)
theorem tokOf_injective : Function.Injective (tokOf : Dev nD × Duty → GSem nD τ sig × ℕ × Bool) := by
  rintro ⟨c, d | k⟩ ⟨c', d' | k'⟩ h
  · have h1 : c = c' := bar_eq_iff.mp (congrArg Prod.fst h)
    have h2 : d = d' := congrArg (fun x : GSem nD τ sig × ℕ × Bool => x.2.2) h
    rw [h1, h2]
  · have := congrArg (fun x : GSem nD τ sig × ℕ × Bool => x.1.2) h; cases this
  · have := congrArg (fun x : GSem nD τ sig × ℕ × Bool => x.1.2) h; cases this
  · obtain ⟨h1, h2⟩ : c = c' ∧ k = k' := xfer_eq_iff.mp (congrArg Prod.fst h)
    rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((dutyTok ER (barCell c) 0 false ∗ dutyTok ER (barCell c) 0 true) ∗ bigSep Finset.univ fun k : Lane => dutyTok ER (xferCell c k) 0 false)

/-- What the launch deals device `c`. -/
def G (c : Dev nD) : sProp 𝕄 :=
  iprop((bigSep Finset.univ fun k : Option Lane => roundState ER (rings (inputs m)) (kcell (c, k)) 0)
    ∗ (bigSep Finset.univ fun k : Option Lane => iprop(atPos ER (kcell (c, k)) 0 ∅ 0 ∗ reached ER (kcell (c, k)) 0)) ∗ toks c)
/-- What registering all the cells makes of it. -/
def G' (c : Dev nD) : sProp 𝕄 := iprop(∃ K, records (inputs m) K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option Lane => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, bools_eq]; rfl
  iintro HX
  imod (Rounds.fund ER (rings (inputs m)) ringCells ringToks) $$ HX with ⟨Hst, Hr, Hat, Htok⟩
  imodintro
  ihave Hst' := (Entails.of_eq (hX fun g => roundState ER (rings (inputs m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Registering the cells -/

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun k : Lane => semVal (xferCell c k) 0 := rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Lane => semVal (kcell (c, k)) 0 : sProp 𝕄) := by
  rw [ownSems0_eq, unscopedSems0_eq, cells_eq]
  iintro ⟨HX, HB⟩
  isplitl [HB]; · iexact HB
  iexact HX

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rings (inputs m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Lane => semVal (kcell (c, k)) 0) ∗ bigSep Finset.univ fun k : Option Lane => roundState ER (rings (inputs m)) (kcell (c, k)) 0)
      ⊢ (|={Set.univ}=> bigSep Finset.univ fun k => iprop(∃ κ : ℕ, cellInv ER (rings (inputs m)) κ (kcell (c, k))) : sProp 𝕄) from by
        rw [← bigSep_sep']
        exact (bigSep_mono fun k _ => (Rounds.body_intro ER (rings (inputs m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duty tokens go to the devices that pay -/

def payToks (c : Dev nD) : sProp 𝕄 :=
  iprop((dutyTok ER (barCell (prv c)) 0 false ∗ dutyTok ER (barCell (nxt c)) 0 true)
    ∗ bigSep Finset.univ fun k : Lane => dutyTok ER (xferCell (if k.2.1 then tgt k.1 c else c) k) 0 false)

theorem lane_around (k : Lane) : (bigSep Finset.univ fun c : Dev nD => (dutyTok ER (xferCell c k) 0 false : sProp 𝕄))
    = bigSep Finset.univ fun c : Dev nD => dutyTok ER (xferCell (if k.2.1 then tgt k.1 c else c) k) 0 false := by
  obtain ⟨d, _ | _, s⟩ := k
  · rfl
  · exact bigSep_univ_equiv (around d) (fun c : Dev nD => (dutyTok ER (xferCell c (d, true, s)) 0 false : sProp 𝕄))

theorem toks_around : (bigSep Finset.univ fun c : Dev nD => (toks c : sProp 𝕄)) = bigSep Finset.univ fun c : Dev nD => payToks c := by
  unfold toks payToks
  have hc (Φ : Dev nD → Lane → sProp 𝕄) : (bigSep Finset.univ fun c => bigSep Finset.univ fun k => Φ c k)
      = bigSep Finset.univ fun k => bigSep Finset.univ fun c => Φ c k := Pipeline.bigSep_univ_comm Φ
  rw [bigSep_sep', bigSep_sep', bigSep_sep', bigSep_sep', hc, hc,
    bigSep_univ_equiv (around true) (fun c : Dev nD => (dutyTok ER (barCell c) 0 false : sProp 𝕄)),
    bigSep_univ_equiv (around false) (fun c : Dev nD => (dutyTok ER (barCell c) 0 true : sProp 𝕄)),
    bigSep_congr (s := Finset.univ) (fun (k : Lane) _ => lane_around (F := F) k)]
  rfl

theorem persistent_over {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rings (inputs m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option Lane => iprop(∃ κ : ℕ, cellInv ER (rings (inputs m)) κ (kcell ck))),
    bigSep_congr (s := Finset.univ) (fun (c : Dev nD) _ => bigSep_sep' Finset.univ (fun k : Option Lane => (atPos ER (kcell (c, k)) 0 ∅ 0 : sProp 𝕄)) (fun k => reached ER (kcell (c, k)) 0)),
    bigSep_sep', ← bigSep_univ_prod (fun ck : Dev nD × Option Lane => (reached ER (kcell ck) 0 : sProp 𝕄)), toks_around]
  iintro ⟨HI, ⟨Hat, #HR⟩, Htok⟩
  ihave HK := (BI.bigSep_exists_pi Finset.univ (fun (ck : Dev nD × Option Lane) (κ : ℕ) => (cellInv ER (rings (inputs m)) κ (kcell ck) : sProp 𝕄))) $$ HI
  icases HK with ⟨%K, #HI⟩
  iapply (persistent_over (R := records (inputs m) K) (Φ := fun c => linear c) fun c _ => by
    unfold G'; iintro H; iexists K; iexact H)
  isplitr
  · unfold records; isplitl; · iexact HI
    iexact HR
  · iapply ((Entails.of_eq (bigSep_sep' Finset.univ (fun c : Dev nD => bigSep Finset.univ fun k : Option Lane => (atPos ER (kcell (c, k)) 0 ∅ 0 : sProp 𝕄)) payToks).symm).trans
      (bigSep_mono fun c _ => show _ ⊢ linear c from Entails.of_eq (by unfold linear payToks; rw [cells_eq]; rfl)))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What the last `n` steps of device `d` owe a receiving cell of device `c`. -/
theorem owedLast_recv (d c : Dev nD) (dir : Bool) (s : Fin 7) : ∀ n : ℕ, n ≤ 7 →
    owedLast d n (xferCell c (dir, true, s)) () = if 7 - n ≤ s.val ∧ d = frm dir c then N else 0
  | 0, _ => by rw [if_neg (fun h => by have := s.isLt; omega)]; rfl
  | n + 1, hn => by
    have ih := owedLast_recv d c dir s n (by omega)
    have key (b : Bool) : (tallyAt (xferCell (tgt b d) (b, true, ⟨6 - n, by omega⟩)) () N : CellTallies nD τ sig Unit) (xferCell c (dir, true, s)) ()
        = if dir = b ∧ s.val = 6 - n ∧ d = frm dir c then N else 0 := by
      rw [tallyAt_apply]
      refine if_congr ⟨fun h => ?_, fun h => ⟨?_, rfl⟩⟩ rfl rfl
      · obtain ⟨h1, h2⟩ := xfer_eq_iff.mp h.1
        injection h2 with h2 h3; injection h3 with h3 h4
        subst h2
        exact ⟨rfl, congrArg Fin.val h4, by rw [h1, frm_tgt]⟩
      · obtain ⟨rfl, h2, rfl⟩ := h
        rw [tgt_frm]
        exact xfer_eq_iff.mpr ⟨rfl, by rw [show s = ⟨6 - n, by omega⟩ from Fin.ext h2]⟩
    unfold owedLast
    rw [Pi.add_apply, Finsupp.add_apply, Pi.add_apply, Finsupp.add_apply, ih, key, key]
    by_cases hd : d = frm dir c
    · by_cases hs : s.val = 6 - n
      · cases dir
        · rw [if_neg (by omega), if_neg (by simp), if_pos ⟨rfl, hs, hd⟩, if_pos ⟨by omega, hd⟩, Nat.zero_add]
        · rw [if_neg (by omega), if_pos ⟨rfl, hs, hd⟩, if_neg (by simp), if_pos ⟨by omega, hd⟩, Nat.zero_add, Nat.add_zero]
      · rw [if_neg (c := dir = true ∧ _) (fun h => hs h.2.1), if_neg (c := dir = false ∧ _) (fun h => hs h.2.1), Nat.add_zero, Nat.add_zero]
        exact if_congr ⟨fun h => ⟨by omega, h.2⟩, fun h => ⟨by omega, h.2⟩⟩ rfl rfl
    · rw [if_neg (fun h => hd h.2), if_neg (fun h => hd h.2.2), if_neg (fun h => hd h.2.2), if_neg (fun h => hd h.2)]

theorem owedAll_recv (d c : Dev nD) (dir : Bool) (s : Fin 7) : owedAll d (xferCell c (dir, true, s)) () = if d = frm dir c then N else 0 := by
  have h := owedLast_recv d c dir s 7 (Nat.le_refl _)
  unfold owedAll owedBar
  generalize owedLast d 7 = T at h ⊢
  rw [Pi.add_apply, Finsupp.add_apply, Pi.add_apply, Finsupp.add_apply, h,
    tallyAt_ne_cell (fun h => by cases congrArg Prod.snd h), tallyAt_ne_cell (fun h => by cases congrArg Prod.snd h), Finsupp.zero_apply, Nat.add_zero, Nat.add_zero]
  exact if_congr ⟨fun h => h.2, fun h => ⟨by omega, h⟩⟩ rfl rfl

theorem owedAll_bar (d c : Dev nD) : owedAll d (barCell c) () = (if d = prv c then 1 else 0) + (if d = nxt c then 1 else 0) := by
  have h : owedLast d 7 (barCell c) () = 0 := by
    by_contra hne
    have := (owedLast_pos (n := 7) (Nat.le_refl _) (Nat.pos_of_ne_zero hne)).2
    rw [lv_bar] at this; omega
  unfold owedAll owedBar
  generalize owedLast d 7 = T at h ⊢
  rw [Pi.add_apply, Finsupp.add_apply, Pi.add_apply, Finsupp.add_apply, h, tallyAt_apply, tallyAt_apply, Nat.zero_add]
  congr 1
  · refine if_congr ⟨fun h => ?_, fun h => ⟨?_, rfl⟩⟩ rfl rfl
    · rw [bar_eq_iff.mp h.1]; exact (frm_tgt false d).symm
    · rw [h]; exact bar_eq_iff.mpr (tgt_frm false c).symm
  · refine if_congr ⟨fun h => ?_, fun h => ⟨?_, rfl⟩⟩ rfl rfl
    · rw [bar_eq_iff.mp h.1]; exact (frm_tgt true d).symm
    · rw [h]; exact bar_eq_iff.mpr (tgt_frm true c).symm

theorem launch_bar (c : Dev nD) :
    tallyOn (barCell c) (launchCredit (Pipeline.owing owedAll) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owedAll_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) (dir : Bool) (s : Fin 7) :
    tallyOn (xferCell c (dir, true, s)) (launchCredit (Pipeline.owing owedAll) 0 (xferCell c (dir, true, s)))
      = (tallyAt (xferCell c (dir, true, s)) () N : CellTallies nD τ sig Unit) := by
  unfold tallyAt; refine congrArg _ (Finsupp.ext fun u => ?_); cases u
  rw [Pipeline.launchCredit_owing, Finsupp.single_eq_same, Finset.sum_congr rfl fun d _ => owedAll_recv d c dir s,
    Finset.sum_ite_eq' Finset.univ (frm dir c) fun _ => N, if_pos (Finset.mem_univ _)]

theorem creds (c : Dev nD) : (Pipeline.launchCred owedAll c : sProp 𝕄)
    ⊢ iprop(cred (tallyAt (barCell c) () 2) ∗ (bigSep Finset.univ fun s : Fin 7 => cred (tallyAt (xferCell c (false, true, s)) () N))
      ∗ bigSep Finset.univ fun s : Fin 7 => cred (tallyAt (xferCell c (true, true, s)) () N)) := by
  unfold Pipeline.launchCred
  refine (BI.bigSep_subset (Finset.subset_univ (Finset.univ.map ⟨csem, csem_injective⟩))).trans ?_
  rw [bigSep_map, cells_eq, lanes_eq]
  show iprop(cred (tallyOn (barCell c) (launchCredit (Pipeline.owing owedAll) 0 (barCell c)))
    ∗ ((_ ∗ bigSep Finset.univ fun s : Fin 7 => cred (tallyOn (xferCell c (false, true, s)) (launchCredit (Pipeline.owing owedAll) 0 (xferCell c (false, true, s)))))
      ∗ (_ ∗ bigSep Finset.univ fun s : Fin 7 => cred (tallyOn (xferCell c (true, true, s)) (launchCredit (Pipeline.owing owedAll) 0 (xferCell c (true, true, s))))))) ⊢ _
  rw [launch_bar, bigSep_congr (s := Finset.univ) (fun (s : Fin 7) _ => congrArg (fun x => (cred x : sProp 𝕄)) (launch_recv c false s)),
    bigSep_congr (s := Finset.univ) (fun (s : Fin 7) _ => congrArg (fun x => (cred x : sProp 𝕄)) (launch_recv c true s))]
  iintro ⟨HB, ⟨-, HU⟩, -, HD⟩
  isplitl [HB]; · iexact HB
  isplitl [HU] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HU, HD⟩
  imodintro
  unfold start G'
  isplitl
  · isplitl [HG]; · iexact HG
    isplitl [Hlev]; · iexact Hlev
    isplitl [H1]; · iexact H1
    isplitl [HU] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, H⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨⟨HzB, HzX⟩, Hr⟩
  isplitl [HzB]; · iexact HzB
  isplitl [HzX] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- Every fair execution terminates without fault; in the final state every window's array is what the body's data say and
    every counter is zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem final_in0 (c : Dev nD) : finalA m ρ c (0 : Fin 5) = m (win0_0.arr.view.loc (c : Thread nD τ)) := (dats (F := F) m ρ 0 c).arrAt_in (0 : Fin 5) rfl _
theorem final_in1 (c : Dev nD) : finalA m ρ c (1 : Fin 5) = m (win0_1.arr.view.loc (c : Thread nD τ)) := (dats (F := F) m ρ 0 c).arrAt_in (1 : Fin 5) rfl _
theorem final_in2 (c : Dev nD) : finalA m ρ c (2 : Fin 5) = m (win0_2.arr.view.loc (c : Thread nD τ)) := (dats (F := F) m ρ 0 c).arrAt_in (2 : Fin 5) rfl _
theorem final_in3 (c : Dev nD) : finalA m ρ c (3 : Fin 5) = m (win0_3.arr.view.loc (c : Thread nD τ)) := (dats (F := F) m ρ 0 c).arrAt_in (3 : Fin 5) rfl _

end Cert.KernelIdeal.MoeRing

end
-- ==== Proof.Routing.lean ====
module

public import Idealize.ShloMosaic.Lib.ValueIdx
public import Idealize.ShloMosaic.PureOps.Ideal.Laws

/-!
Routing of a token to two of 32 experts, over the extended reals: what it is, and why weighting the token before the
product with an expert's matrix gives the same as weighting the product after it.

The two are the same because the weights are real and not negative. For this the scores must be real, so the tokens and the
router's weights must be; nothing is asked of the experts' matrices.
-/

@[expose] public section

noncomputable section

namespace Cert.Moe

open Idealize.ShloMosaic Idealize.ShloMosaic.ValueIdx
open scoped BigOperators

/-! ## The formula -/

/-- The greatest of 32 scores. -/
def top (s : Fin 32 → EReal) : EReal := Finset.univ.fold max ⊥ s

/-- The softmax of 32 scores, at one of them. -/
def soft (s : Fin 32 → EReal) (e : Fin 32) : EReal :=
  Ideal.div (Ideal.exp (s e - top s)) (∑ k : Fin 32, Ideal.exp (s k - top s))

/-- Token `t`'s score for expert `e`. -/
def score (X : (⟨2, ![2048, 512]⟩ : Shape).Idx → EReal) (R : (⟨2, ![512, 32]⟩ : Shape).Idx → EReal) (t : Fin 2048) (e : Fin 32) : EReal :=
  ∑ d : Fin 512, X (ix2 t d) * R (ix2 d e)

/-- Token `t`'s gate for expert `e`. -/
def gate (X : (⟨2, ![2048, 512]⟩ : Shape).Idx → EReal) (R : (⟨2, ![512, 32]⟩ : Shape).Idx → EReal) (t : Fin 2048) (e : Fin 32) : EReal :=
  soft (score X R t) e

/-- The part of the first choice, and of the second, in the sum of both gates. -/
def part0 (X : (⟨2, ![2048, 512]⟩ : Shape).Idx → EReal) (R : (⟨2, ![512, 32]⟩ : Shape).Idx → EReal) (t : Fin 2048) (e0 e1 : Fin 32) : EReal :=
  Ideal.div (gate X R t e0) (gate X R t e0 + gate X R t e1)
def part1 (X : (⟨2, ![2048, 512]⟩ : Shape).Idx → EReal) (R : (⟨2, ![512, 32]⟩ : Shape).Idx → EReal) (t : Fin 2048) (e0 e1 : Fin 32) : EReal :=
  Ideal.div (gate X R t e1) (gate X R t e0 + gate X R t e1)

/-- Expert `e`'s product with token `t`, at column `h`. -/
def product (X : (⟨2, ![2048, 512]⟩ : Shape).Idx → EReal) (E : (⟨3, ![32, 512, 1024]⟩ : Shape).Idx → EReal) (t : Fin 2048) (e : Fin 32) (h : Fin 1024) : EReal :=
  ∑ d : Fin 512, X (ix2 t d) * E (ix3 e d h)

/-- Token `t` routed to experts `e0` and `e1`, at column `h`. -/
def routed (X : (⟨2, ![2048, 512]⟩ : Shape).Idx → EReal) (R : (⟨2, ![512, 32]⟩ : Shape).Idx → EReal) (E : (⟨3, ![32, 512, 1024]⟩ : Shape).Idx → EReal)
    (t : Fin 2048) (e0 e1 : Fin 32) (h : Fin 1024) : EReal :=
  part0 X R t e0 e1 * product X E t e0 h + part1 X R t e0 e1 * product X E t e1 h

/-! ## Reals -/

/-- An extended real that is a real number. -/
def IsReal (a : EReal) : Prop := ∃ r : ℝ, a = r

/-- A real number above zero. -/
def IsPos (a : EReal) : Prop := ∃ r : ℝ, 0 < r ∧ a = r

theorem IsReal.mul {a b : EReal} : IsReal a → IsReal b → IsReal (a * b) := by
  rintro ⟨r, rfl⟩ ⟨q, rfl⟩; exact ⟨r * q, by push_cast; rfl⟩
theorem IsReal.sub {a b : EReal} : IsReal a → IsReal b → IsReal (a - b) := by
  rintro ⟨r, rfl⟩ ⟨q, rfl⟩; exact ⟨r - q, by push_cast; rfl⟩
theorem IsPos.add {a b : EReal} : IsPos a → IsPos b → IsPos (a + b) := by
  rintro ⟨r, hr, rfl⟩ ⟨q, hq, rfl⟩; exact ⟨r + q, add_pos hr hq, by push_cast; rfl⟩

/-- A sum of reals is real. -/
theorem isReal_sum {ι : Type} (u : Finset ι) (f : ι → EReal) (hf : ∀ i, IsReal (f i)) : IsReal (∑ i ∈ u, f i) := by
  classical
  induction u using Finset.induction_on with
  | empty => exact ⟨0, by simp⟩
  | insert a u ha ih =>
    rw [Finset.sum_insert ha]
    obtain ⟨r, hr⟩ := hf a; obtain ⟨q, hq⟩ := ih
    exact ⟨r + q, by rw [hr, hq]; push_cast; rfl⟩

/-- A sum of positive reals, over at least one of them, is one. -/
theorem isPos_sum {n : ℕ} (f : Fin (n + 1) → EReal) (hf : ∀ i, IsPos (f i)) : IsPos (∑ i, f i) := by
  induction n with
  | zero => simpa using hf 0
  | succ n ih => rw [Fin.sum_univ_castSucc]; exact (ih _ fun i => hf _).add (hf _)

/-- The exponential of a real is a positive real. -/
theorem isPos_exp {a : EReal} : IsReal a → IsPos (Ideal.exp a) := by
  rintro ⟨r, rfl⟩; exact ⟨Real.exp r, Real.exp_pos r, rfl⟩

/-- A quotient of positive reals is one. -/
theorem isPos_div {a b : EReal} : IsPos a → IsPos b → IsPos (Ideal.div a b) := by
  rintro ⟨r, hr, rfl⟩ ⟨q, hq, rfl⟩
  refine ⟨r * q⁻¹, mul_pos hr (inv_pos.mpr hq), ?_⟩
  unfold Ideal.div
  rw [if_neg (by exact_mod_cast hq.ne')]
  push_cast; rfl

/-- The greatest of real scores is real. -/
theorem isReal_top (s : Fin 32 → EReal) (hs : ∀ k, IsReal (s k)) : IsReal (top s) := by
  classical
  have step : ∀ u : Finset (Fin 32), u.fold max ⊥ s = ⊥ ∨ IsReal (u.fold max ⊥ s) := fun u => by
    induction u using Finset.induction_on with
    | empty => exact Or.inl rfl
    | insert a u ha ih =>
      rw [Finset.fold_insert ha]
      rcases max_choice (s a) (u.fold max ⊥ s) with h | h
      · rw [h]; exact Or.inr (hs a)
      · rw [h]; exact ih
  refine (step Finset.univ).resolve_left fun h => ?_
  have h0 : s 0 ≤ Finset.univ.fold max ⊥ s := (Finset.le_fold_max _).mpr (Or.inr ⟨0, Finset.mem_univ _, le_rfl⟩)
  rw [h] at h0
  obtain ⟨r, hr⟩ := hs 0
  rw [hr, le_bot_iff] at h0
  exact EReal.coe_ne_bot r h0

/-- The softmax of real scores is a positive real. -/
theorem isPos_soft (s : Fin 32 → EReal) (hs : ∀ k, IsReal (s k)) (e : Fin 32) : IsPos (soft s e) :=
  isPos_div (isPos_exp ((hs e).sub (isReal_top s hs))) (isPos_sum _ fun k => isPos_exp ((hs k).sub (isReal_top s hs)))

section
variable (X : (⟨2, ![2048, 512]⟩ : Shape).Idx → EReal) (R : (⟨2, ![512, 32]⟩ : Shape).Idx → EReal)
  (hX : ∀ i, IsReal (X i)) (hR : ∀ i, IsReal (R i))
include hX hR

/-- Gates of real tokens under real router weights are positive reals, and so are the parts. -/
theorem isPos_gate (t : Fin 2048) (e : Fin 32) : IsPos (gate X R t e) :=
  isPos_soft _ (fun k => isReal_sum _ _ fun d => (hX _).mul (hR _)) e
theorem isPos_part0 (t : Fin 2048) (e0 e1 : Fin 32) : IsPos (part0 X R t e0 e1) :=
  isPos_div (isPos_gate X R hX hR t e0) ((isPos_gate X R hX hR t e0).add (isPos_gate X R hX hR t e1))
theorem isPos_part1 (t : Fin 2048) (e0 e1 : Fin 32) : IsPos (part1 X R t e0 e1) :=
  isPos_div (isPos_gate X R hX hR t e1) ((isPos_gate X R hX hR t e0).add (isPos_gate X R hX hR t e1))

end

/-! ## Weighting before and after the product -/

/-- A real weight that is not negative comes out of a sum. -/
theorem sum_weighted {ι : Type} (u : Finset ι) (w : ℝ) (hw : 0 ≤ w) (f : ι → EReal) : ∑ i ∈ u, (w : EReal) * f i = w * ∑ i ∈ u, f i := by
  classical
  induction u using Finset.induction_on with
  | empty => simp
  | insert a u ha ih =>
    rw [Finset.sum_insert ha, Finset.sum_insert ha, ih,
      EReal.left_distrib_of_nonneg_of_ne_top (by exact_mod_cast hw) (EReal.coe_ne_top w)]

/-- Weighting every factor of a sum of products weights the sum. -/
theorem sum_weighted_products {n : ℕ} (w : ℝ) (hw : 0 ≤ w) (x y : Fin n → EReal) : ∑ d, (x d * w) * y d = w * ∑ d, x d * y d := by
  rw [← sum_weighted _ w hw]
  exact Finset.sum_congr rfl fun d _ => by rw [mul_comm (x d), mul_assoc]

/-- A weight `w0` at `e0` and a weight `w1` at `e1`, every product weighted by both, summed over the experts: only the
    two chosen experts' products are left. -/
theorem sum_two_choices {a b : EReal} (ha : IsPos a) (hb : IsPos b) (e0 e1 : Fin 32) (Y : Fin 32 → EReal) (Z : EReal → Fin 32 → EReal)
    (hZ : ∀ w : ℝ, 0 ≤ w → ∀ e, Z w e = w * Y e) :
    ∑ e, Z ((if e0 = e then a else 0) + (if e1 = e then b else 0)) e = a * Y e0 + b * Y e1 := by
  obtain ⟨r, hr, rfl⟩ := ha; obtain ⟨q, hq, rfl⟩ := hb
  have step : ∀ e, Z ((if e0 = e then (r : EReal) else 0) + (if e1 = e then (q : EReal) else 0)) e
      = (if e0 = e then (r : EReal) * Y e else 0) + (if e1 = e then (q : EReal) * Y e else 0) := fun e => by
    have hsum : ((if e0 = e then (r : EReal) else 0) + (if e1 = e then (q : EReal) else 0))
        = (((if e0 = e then r else 0) + (if e1 = e then q else 0) : ℝ) : EReal) := by
      split_ifs <;> push_cast <;> rfl
    rw [hsum, hZ _ (by split_ifs <;> positivity)]
    split_ifs
    · push_cast; exact EReal.right_distrib_of_nonneg (by exact_mod_cast hr.le) (by exact_mod_cast hq.le)
    · push_cast; simp
    · push_cast; simp
    · push_cast; simp
  rw [Finset.sum_congr rfl fun e _ => step e, Finset.sum_add_distrib, Finset.sum_ite_eq, Finset.sum_ite_eq,
    if_pos (Finset.mem_univ _), if_pos (Finset.mem_univ _)]

set_option backward.proofsInPublic true in
/-- Expert `e` of device `c`'s four, among the 32. -/
def expertAt (c : Fin 8) (e : Fin 4) : Fin 32 := ⟨4 * c.val + e.val, by omega⟩

/-- A sum over the 32 experts is the sum over the devices of the sum over each one's four. -/
theorem sum_experts (f : Fin 32 → EReal) : ∑ c : Fin 8, ∑ e : Fin 4, f (expertAt c e) = ∑ e, f e := by
  rw [← Equiv.sum_comp (finProdFinEquiv (m := 8) (n := 4)) f, Fintype.sum_prod_type]
  exact Finset.sum_congr rfl fun c _ => Finset.sum_congr rfl fun e _ => congrArg f (Fin.ext (by
    show 4 * c.val + e.val = e.val + 4 * c.val; omega))

/-- Token `t` weighted, for every device and each of its experts, by the parts of the choices that name the expert,
    then multiplied by the expert's matrix: the sum is the token routed. -/
theorem sum_devices (X : (⟨2, ![2048, 512]⟩ : Shape).Idx → EReal) (R : (⟨2, ![512, 32]⟩ : Shape).Idx → EReal)
    (E : (⟨3, ![32, 512, 1024]⟩ : Shape).Idx → EReal) (hX : ∀ i, IsReal (X i)) (hR : ∀ i, IsReal (R i))
    (t : Fin 2048) (e0 e1 : Fin 32) (h : Fin 1024) :
    ∑ c : Fin 8, ∑ e : Fin 4, ∑ d : Fin 512, (X (ix2 t d) * ((if e0 = expertAt c e then part0 X R t e0 e1 else 0)
        + (if e1 = expertAt c e then part1 X R t e0 e1 else 0))) * E (ix3 (expertAt c e) d h)
      = routed X R E t e0 e1 h := by
  rw [sum_experts fun e => ∑ d : Fin 512, (X (ix2 t d) * ((if e0 = e then part0 X R t e0 e1 else 0)
      + (if e1 = e then part1 X R t e0 e1 else 0))) * E (ix3 e d h)]
  exact sum_two_choices (isPos_part0 X R hX hR t e0 e1) (isPos_part1 X R hX hR t e0 e1) e0 e1 (fun e => product X E t e h)
    (fun w e => ∑ d : Fin 512, (X (ix2 t d) * w) * E (ix3 e d h)) fun w hw e => sum_weighted_products w hw _ _

end Cert.Moe

end
-- ==== Proof.KernelIdeal.Weights.lean ====
module

public import proofs.«01_k».proof.Proof.KernelIdeal.Contents
public import proofs.«01_k».proof.Proof.Routing
public import Idealize.ShloMosaic.Lib.Pipeline.Value
public import Idealize.ShloMosaic.Lib.ValueIdx

/-!
The kernel's table of combine weights, over the extended reals, at an index: the parts of the two choices in the sum of
both gates, each where the choice names the expert.
-/

@[expose] public section

set_option maxRecDepth 16384

noncomputable section

namespace Cert.KernelIdeal.MoeRing

open Cert.KernelIdeal Cert.KernelIdeal.Gen
open Idealize.ShloMosaic Idealize.ShloMosaic.TcCoe Idealize.ShloMosaic.ValueIdx
open Cert.Moe
open scoped BigOperators

/-! ## Reading the buffers -/

section
variable {F : FTy → Type} [FloatOps F]

theorem allX_eq (X : Vec F S2048x512 .bf16) : allX X = X :=
  funext fun i => congrArg X (Shape.idx_ext₂ (by show 0 + 1 * (i 0).val = _; omega) (by show 0 + 1 * (i 1).val = _; omega))
theorem allRW_eq (R : Vec F S512x32 .bf16) : allRW R = R :=
  funext fun i => congrArg R (Shape.idx_ext₂ (by show 0 + 1 * (i 0).val = _; omega) (by show 0 + 1 * (i 1).val = _; omega))
theorem choice0_apply (IX : Vec F S2048x2 .i32) (t : Fin 2048) : choice0 IX (ix2 t 0) = IX (ix2 t 0) :=
  congrArg IX (Shape.idx_ext₂ (by show 0 + 1 * t.val = t.val; omega) rfl)
theorem choice1_apply (IX : Vec F S2048x2 .i32) (t : Fin 2048) : choice1 IX (ix2 t 0) = IX (ix2 t 1) :=
  congrArg IX (Shape.idx_ext₂ (by show 0 + 1 * t.val = t.val; omega) rfl)

/-- Column `k` of the table written column by column, the column's piece being `p`. -/
theorem column_apply (L : List (View.Piece (Elt F) S2048x4 .f32)) (f : Vec F S2048x4 .f32) (k : Fin 4) (w : Vec F S2048x1 .f32)
    (h : ∀ a, (![0, k.val] : Fin 2 → ℕ) a + S2048x1.size a ≤ S2048x4.size a) (hp : ⟨Rect.unit (s := S2048x4) ![0, k.val] S2048x1.size h, w⟩ ∈ L)
    (hu : ∀ q ∈ L, ∀ t : Fin 2048, ix2 t k ∈ q.1.set → q = ⟨Rect.unit (s := S2048x4) ![0, k.val] S2048x1.size h, w⟩) (t : Fin 2048) :
    (Memref.whole cc0_scratch0).view.writes (Elt F) f L (ix2 t k) = w (ix2 t 0) := by
  have he : (Rect.unit (s := S2048x4) ![0, k.val] S2048x1.size h).emb (ix2 t 0) = ix2 t k :=
    Shape.idx_ext₂ (by show 0 + 1 * t.val = t.val; omega) (by show k.val + 1 * 0 = k.val; omega)
  have hw := View.read_writes_of_unique (v := (Memref.whole cc0_scratch0).view) (f := f)
    ⟨Rect.unit (s := S2048x4) ![0, k.val] S2048x1.size h, w⟩ (ix2 t 0) L hp (fun q hq hm => hu q hq t (he ▸ hm))
  rw [he] at hw
  exact hw

end

/-! ## The gates -/

/-- Comparing two small words selects as comparing the numbers does. -/
theorem select_word {α : Type} (a b : ℕ) (ha : a < 2 ^ 32) (hb : b < 2 ^ 32) (x y : α) :
    Scalar.select (IntOp.cmpi .eq (BitVec.ofNat 32 a) (BitVec.ofNat 32 b)) x y = if a = b then x else y := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  show Scalar.select (BitVec.ofBool _) x y = _
  by_cases e : a = b
  · rw [if_pos e, show (BitVec.ofNat 32 a == BitVec.ofNat 32 b) = true from beq_iff_eq.mpr (h.mpr e)]; rfl
  · rw [if_neg e, show (BitVec.ofNat 32 a == BitVec.ofNat 32 b) = false from beq_eq_false_iff_ne.mpr fun hh => e (h.mp hh)]; rfl

/-- A column spread along the rows, at an index. -/
theorem spread_apply {α : Type} (v : S2048x1.Idx → α) (t : Fin 2048) (k : Fin 32) :
    broadcastTo S2048x32 v broadcasts_S2048x1_S2048x32 (ix2 t k) = v (ix2 t 0) :=
  broadcastTo_apply v broadcasts_S2048x1_S2048x32 (ix2 t k) (ix2 t 0) fun a => by
    match a with
    | ⟨0, _⟩ => rfl
    | ⟨1, _⟩ => rfl

/-- A vector as a column, at an index. -/
theorem column_cast_apply {α : Type} (v : S2048.Idx → α) (t : Fin 2048) :
    shapeCast S2048x1 v shapeCasts_S2048_S2048x1 (ix2 t 0) = v (ix1 t) :=
  shapeCast_apply v shapeCasts_S2048_S2048x1 (ix2 t 0) (ix1 t) (by rw [Shape.rowMajor_val_two, Shape.rowMajor_val_one]; show t.val = t.val * 1 + 0; omega)

/-- A row's sum, and its greatest element. -/
theorem row_sum (v : FVec Ideal S2048x32 .f32) (t : Fin 2048) :
    multiReduction .add [1] S2048 v 0x00000000#32 reduces_S2048x32_S2048 (.inl rfl) rfl (ix1 t) = ∑ k : Fin 32, v (ix2 t k) := by
  refine (Ideal.multiReduction_add_single v _ reduces_S2048x32_S2048 _ _ (ix1 t)).trans ?_
  exact Finset.sum_congr rfl fun k _ => congrArg v (Shape.idx_ext₂ rfl rfl)
theorem row_top (v : FVec Ideal S2048x32 .f32) (t : Fin 2048) :
    multiReduction .maximumf [1] S2048 v 0xFF800000#32 reduces_S2048x32_S2048 (.inl rfl) rfl (ix1 t) = top fun k => v (ix2 t k) := by
  refine (Ideal.multiReduction_maximumf_single v _ reduces_S2048x32_S2048 _ _ (ix1 t)).trans ?_
  rw [show FloatOps.ofBits (F := Ideal) .f32 0xFF800000#32 = (⊥ : EReal) from by
    show Ideal.ofBits .f32 0xFF800000#32 = ⊥; simp [Ideal.ofBits, Ideal.ieee]]
  unfold top
  exact congrArg (Finset.fold max ⊥ · Finset.univ) (funext fun k => congrArg v (Shape.idx_ext₂ rfl rfl))

/-- The router's scores. -/
theorem scores (X : FVec Ideal S2048x512 .bf16) (R : FVec Ideal S512x32 .bf16) (t : Fin 2048) (e : Fin 32) :
    matmul dot_S2048x512_S512x32_S2048x32_1_0_0_1_n_n none X R (constant S2048x32 .f32 0x00000000#32) (ix2 t e) = score X R t e := by
  rw [show matmul dot_S2048x512_S512x32_S2048x32_1_0_0_1_n_n none X R (constant S2048x32 .f32 0x00000000#32) (ix2 t e) = _ from
    Ideal.matmul_constant_zero_apply dot_S2048x512_S512x32_S2048x32_1_0_0_1_n_n none X R (ix2 t e),
    ← Equiv.sum_comp (contrEquiv1 dot_S2048x512_S512x32_S2048x32_1_0_0_1_n_n 512 rfl rfl).symm]
  refine Finset.sum_congr rfl fun d _ => ?_
  have hd := contrEquiv1_symm_val dot_S2048x512_S512x32_S2048x32_1_0_0_1_n_n 512 rfl rfl d
  refine congr (congrArg _ (congrArg X (Shape.idx_ext₂ ?_ ?_))) (congrArg R (Shape.idx_ext₂ ?_ ?_))
  · unfold DotDims.lhsIdx; rfl
  · exact (dot_S2048x512_S512x32_S2048x32_1_0_0_1_n_n.lhsIdx_val_of_single rfl _ _).trans hd
  · exact (dot_S2048x512_S512x32_S2048x32_1_0_0_1_n_n.rhsIdx_val_of_single rfl _ _).trans hd
  · unfold DotDims.rhsIdx; rfl

/-- The softmax of the scores. -/
theorem gates (X : FVec Ideal S2048x512 .bf16) (R : FVec Ideal S512x32 .bf16) (t : Fin 2048) (e : Fin 32) : k0_pay3 (F := Ideal) X R (ix2 t e) = gate X R t e := by
  unfold k0_pay3
  dsimp only
  rw [shapeCast_self, shapeCast_self, divf_apply, spread_apply, column_cast_apply]
  refine (congrArg (Ideal.div _) (row_sum _ t)).trans ?_
  have hx : ∀ k, exp (subf (matmul dot_S2048x512_S512x32_S2048x32_1_0_0_1_n_n none X R (constant S2048x32 .f32 0x00000000#32))
      (broadcastTo S2048x32 (shapeCast S2048x1 (multiReduction .maximumf [1] S2048
        (matmul dot_S2048x512_S512x32_S2048x32_1_0_0_1_n_n none X R (constant S2048x32 .f32 0x00000000#32)) 0xFF800000#32 reduces_S2048x32_S2048 (.inl rfl) rfl)
        shapeCasts_S2048_S2048x1) broadcasts_S2048x1_S2048x32)) (ix2 t k) = Ideal.exp (score X R t k - top (score X R t)) := fun k => by
    show Ideal.exp (_ - _) = _
    rw [scores, spread_apply, column_cast_apply]
    refine congrArg (fun z => Ideal.exp (score X R t k - z)) ((row_top _ t).trans ?_)
    simp only [scores]
  unfold gate soft
  exact congr (congrArg _ (hx e)) (Finset.sum_congr rfl fun k _ => hx k)

/-! ## The choices' gates

`e0` and `e1` name the two experts of every token: the words in its row of indices. -/

section
variable (X : FVec Ideal S2048x512 .bf16) (R : FVec Ideal S512x32 .bf16) (IX : IVec S2048x2 32)
  (e0 e1 : Fin 2048 → Fin 32) (h0 : ∀ t, IX (ix2 t 0) = BitVec.ofNat 32 (e0 t).val) (h1 : ∀ t, IX (ix2 t 1) = BitVec.ofNat 32 (e1 t).val)

/-- A token's gates kept where the expert is the chosen one, zero elsewhere. -/
theorem kept (ch : IVec S2048x1 32) (t : Fin 2048) (e k : Fin 32) (hc : ch (ix2 t 0) = BitVec.ofNat 32 e.val) :
    select (cmpi .eq (iota .tc S2048x32 32 [1] iota_S2048x32_d1_w32) (broadcastTo S2048x32 (shapeCast S2048x1 ch shapeCasts_S2048x1_S2048x1) broadcasts_S2048x1_S2048x32))
      (k0_pay3 (F := Ideal) X R) (broadcast S2048x32 (Scalar.ofBits (F := Ideal) .f32 0x00000000#32)) (ix2 t k) = if k = e then gate X R t k else 0 := by
  rw [select_apply, gates, broadcast_apply]
  show Scalar.select (IntOp.cmpi .eq (iota .tc S2048x32 32 [1] iota_S2048x32_d1_w32 (ix2 t k))
    (broadcastTo S2048x32 (shapeCast S2048x1 ch shapeCasts_S2048x1_S2048x1) broadcasts_S2048x1_S2048x32 (ix2 t k))) (gate X R t k) (Ideal.ofBits .f32 0x00000000#32) = _
  rw [spread_apply, shapeCast_self, hc, iota_single_apply, Ideal.ofBits_zero_f32]
  refine (select_word k.val e.val (by omega) (by omega) _ _).trans ?_
  simp only [Fin.ext_iff]

include h0 in
/-- The first choice's gate. -/
theorem gate0_apply (t : Fin 2048) : gate0 (F := Ideal) X R IX (ix2 t 0) = gate X R t (e0 t) := by
  unfold gate0 k0_pay6 k0_pay4
  dsimp only
  rw [allX_eq, allRW_eq]
  refine (column_cast_apply _ t).trans ((row_sum _ t).trans ?_)
  refine (Finset.sum_congr rfl fun k _ => kept X R (choice0 (F := Ideal) IX) t (e0 t) k ((choice0_apply (F := Ideal) IX t).trans (h0 t))).trans ?_
  rw [Finset.sum_ite_eq', if_pos (Finset.mem_univ _)]

include h1 in
/-- The second choice's gate. -/
theorem gate1_apply (t : Fin 2048) : k0_pay8 (F := Ideal) (gate1 (F := Ideal) X R IX) (ix2 t 0) = gate X R t (e1 t) := by
  unfold gate1 k0_pay8 k0_pay7 k0_pay5
  dsimp only
  rw [allX_eq, allRW_eq]
  refine (column_cast_apply _ t).trans ((row_sum _ t).trans ?_)
  refine (Finset.sum_congr rfl fun k _ => kept X R (choice1 (F := Ideal) IX) t (e1 t) k ((choice1_apply (F := Ideal) IX t).trans (h1 t))).trans ?_
  rw [Finset.sum_ite_eq', if_pos (Finset.mem_univ _)]

include h0 h1 in
/-- Each choice's part in the sum of both gates. -/
theorem part0_apply (t : Fin 2048) : k0_pay10 (F := Ideal) (gate0 (F := Ideal) X R IX) (gate1 (F := Ideal) X R IX) (ix2 t 0) = part0 X R t (e0 t) (e1 t) := by
  show Ideal.div (gate0 (F := Ideal) X R IX (ix2 t 0)) (gate0 (F := Ideal) X R IX (ix2 t 0) + k0_pay8 (F := Ideal) (gate1 (F := Ideal) X R IX) (ix2 t 0)) = _
  rw [gate0_apply X R IX e0 h0, gate1_apply X R IX e1 h1]; rfl
include h0 h1 in
theorem part1_apply (t : Fin 2048) : k0_pay11 (F := Ideal) (gate0 (F := Ideal) X R IX) (gate1 (F := Ideal) X R IX) (ix2 t 0) = part1 X R t (e0 t) (e1 t) := by
  show Ideal.div (k0_pay8 (F := Ideal) (gate1 (F := Ideal) X R IX) (ix2 t 0)) (gate0 (F := Ideal) X R IX (ix2 t 0) + k0_pay8 (F := Ideal) (gate1 (F := Ideal) X R IX) (ix2 t 0)) = _
  rw [gate0_apply X R IX e0 h0, gate1_apply X R IX e1 h1]; rfl

/-! ## The weights -/

/-- The word of local expert `e` of device `c`. -/
theorem expert_word (c : Dev nD) (e : Fin 4) : Scalar.addi (Scalar.muli (word c) 4#32) (BitVec.ofNat 32 e.val) = BitVec.ofNat 32 (expertAt c e).val := by
  revert c e; decide +kernel

/-- A part kept where the choice names the expert. -/
theorem part_kept (ch : IVec S2048x1 32) (w : BitVec 32) (p : FVec Ideal S2048x1 .f32) (t : Fin 2048) (e e' : Fin 32)
    (hc : ch (ix2 t 0) = BitVec.ofNat 32 e.val) (hw : w = BitVec.ofNat 32 e'.val) :
    select (cmpi .eq (shapeCast S2048x1 ch shapeCasts_S2048x1_S2048x1) (broadcast S2048x1 w)) p
      (broadcast S2048x1 (Scalar.ofBits (F := Ideal) .f32 0x00000000#32)) (ix2 t 0) = if e = e' then p (ix2 t 0) else 0 := by
  rw [select_apply, broadcast_apply]
  show Scalar.select (IntOp.cmpi .eq (shapeCast S2048x1 ch shapeCasts_S2048x1_S2048x1 (ix2 t 0)) w) (p (ix2 t 0)) (Ideal.ofBits .f32 0x00000000#32) = _
  rw [shapeCast_self, hc, hw, Ideal.ofBits_zero_f32]
  refine (select_word e.val e'.val (by omega) (by omega) _ _).trans ?_
  simp only [Fin.ext_iff]

/-- The weight of an expert for token `t`: the parts of the choices that name it. -/
def weightAt (t : Fin 2048) (e : Fin 32) : EReal :=
  (if e0 t = e then part0 X R t (e0 t) (e1 t) else 0) + (if e1 t = e then part1 X R t (e0 t) (e1 t) else 0)

include h0 h1 in
/-- The two selections summed. -/
theorem both_kept (c : Dev nD) (e : Fin 4) (t : Fin 2048) :
    addf (select (cmpi .eq (shapeCast S2048x1 (choice0 (F := Ideal) IX) shapeCasts_S2048x1_S2048x1)
          (broadcast S2048x1 (Scalar.addi (Scalar.muli (word c) 4#32) (BitVec.ofNat 32 e.val))))
        (k0_pay10 (F := Ideal) (gate0 (F := Ideal) X R IX) (gate1 (F := Ideal) X R IX)) (broadcast S2048x1 (Scalar.ofBits (F := Ideal) .f32 0x00000000#32)))
      (select (cmpi .eq (shapeCast S2048x1 (choice1 (F := Ideal) IX) shapeCasts_S2048x1_S2048x1)
          (broadcast S2048x1 (Scalar.addi (Scalar.muli (word c) 4#32) (BitVec.ofNat 32 e.val))))
        (k0_pay11 (F := Ideal) (gate0 (F := Ideal) X R IX) (gate1 (F := Ideal) X R IX)) (broadcast S2048x1 (Scalar.ofBits (F := Ideal) .f32 0x00000000#32))) (ix2 t 0)
      = weightAt X R e0 e1 t (expertAt c e) := by
  rw [addf_apply, part_kept _ _ _ t (e0 t) (expertAt c e) ((choice0_apply (F := Ideal) IX t).trans (h0 t)) (expert_word c e),
    part_kept _ _ _ t (e1 t) (expertAt c e) ((choice1_apply (F := Ideal) IX t).trans (h1 t)) (expert_word c e),
    part0_apply X R IX e0 e1 h0 h1, part1_apply X R IX e0 e1 h0 h1]
  rfl

include h0 h1 in
/-- The four columns the kernel computes. -/
theorem weight0_apply (c : Dev nD) (t : Fin 2048) : weight0 (F := Ideal) c X R IX (ix2 t 0) = weightAt X R e0 e1 t (expertAt c 0) :=
  (congrFun (shapeCast_self _ shapeCasts_S2048x1_S2048x1) (ix2 t 0)).trans (both_kept X R IX e0 e1 h0 h1 c 0 t)
include h0 h1 in
theorem weight1_apply (c : Dev nD) (t : Fin 2048) : weight1 (F := Ideal) c X R IX (ix2 t 0) = weightAt X R e0 e1 t (expertAt c 1) :=
  (congrFun (shapeCast_self _ shapeCasts_S2048x1_S2048x1) (ix2 t 0)).trans (both_kept X R IX e0 e1 h0 h1 c 1 t)
include h0 h1 in
theorem weight2_apply (c : Dev nD) (t : Fin 2048) : weight2 (F := Ideal) c X R IX (ix2 t 0) = weightAt X R e0 e1 t (expertAt c 2) :=
  (congrFun (shapeCast_self _ shapeCasts_S2048x1_S2048x1) (ix2 t 0)).trans (both_kept X R IX e0 e1 h0 h1 c 2 t)
include h0 h1 in
theorem weight3_apply (c : Dev nD) (t : Fin 2048) : weight3 (F := Ideal) c X R IX (ix2 t 0) = weightAt X R e0 e1 t (expertAt c 3) :=
  (congrFun (shapeCast_self _ shapeCasts_S2048x1_S2048x1) (ix2 t 0)).trans (both_kept X R IX e0 e1 h0 h1 c 3 t)

/-- A column of the table is met by no piece but its own. -/
theorem mem_column {k j : Fin 4} {h : ∀ a, (![0, j.val] : Fin 2 → ℕ) a + S2048x1.size a ≤ S2048x4.size a} {t : Fin 2048}
    (hm : ix2 t k ∈ (Rect.unit (s := S2048x4) ![0, j.val] S2048x1.size h).set) : k = j := by
  have h1 : j.val ≤ k.val ∧ k.val < j.val + 1 := Rect.mem_set_unit.mp hm 1
  exact Fin.ext (by omega)

include h0 h1 in
/-- The table of weights: for every token and every local expert, the parts of the choices that name the expert. -/
theorem weightsOf_apply (c : Dev nD) (t : Fin 2048) (e : Fin 4) : weightsOf (F := Ideal) c X R IX (ix2 t e) = weightAt X R e0 e1 t (expertAt c e) := by
  unfold weightsOf
  match e with
  | 0 =>
    refine (column_apply _ _ 0 (weight0 (F := Ideal) c X R IX) inb_S2048x4_S2048x1_0_0 (by simp) (fun q hq t hm => ?_) t).trans (weight0_apply X R IX e0 e1 h0 h1 c t)
    simp only [List.mem_cons, List.not_mem_nil, or_false] at hq
    rcases hq with rfl | rfl | rfl | rfl
    · exact absurd (mem_column (j := 3) (h := inb_S2048x4_S2048x1_0_3) hm) (by decide)
    · exact absurd (mem_column (j := 2) (h := inb_S2048x4_S2048x1_0_2) hm) (by decide)
    · exact absurd (mem_column (j := 1) (h := inb_S2048x4_S2048x1_0_1) hm) (by decide)
    · rfl
  | 1 =>
    refine (column_apply _ _ 1 (weight1 (F := Ideal) c X R IX) inb_S2048x4_S2048x1_0_1 (by simp) (fun q hq t hm => ?_) t).trans (weight1_apply X R IX e0 e1 h0 h1 c t)
    simp only [List.mem_cons, List.not_mem_nil, or_false] at hq
    rcases hq with rfl | rfl | rfl | rfl
    · exact absurd (mem_column (j := 3) (h := inb_S2048x4_S2048x1_0_3) hm) (by decide)
    · exact absurd (mem_column (j := 2) (h := inb_S2048x4_S2048x1_0_2) hm) (by decide)
    · rfl
    · exact absurd (mem_column (j := 0) (h := inb_S2048x4_S2048x1_0_0) hm) (by decide)
  | 2 =>
    refine (column_apply _ _ 2 (weight2 (F := Ideal) c X R IX) inb_S2048x4_S2048x1_0_2 (by simp) (fun q hq t hm => ?_) t).trans (weight2_apply X R IX e0 e1 h0 h1 c t)
    simp only [List.mem_cons, List.not_mem_nil, or_false] at hq
    rcases hq with rfl | rfl | rfl | rfl
    · exact absurd (mem_column (j := 3) (h := inb_S2048x4_S2048x1_0_3) hm) (by decide)
    · rfl
    · exact absurd (mem_column (j := 1) (h := inb_S2048x4_S2048x1_0_1) hm) (by decide)
    · exact absurd (mem_column (j := 0) (h := inb_S2048x4_S2048x1_0_0) hm) (by decide)
  | 3 =>
    refine (column_apply _ _ 3 (weight3 (F := Ideal) c X R IX) inb_S2048x4_S2048x1_0_3 (by simp) (fun q hq t hm => ?_) t).trans (weight3_apply X R IX e0 e1 h0 h1 c t)
    simp only [List.mem_cons, List.not_mem_nil, or_false] at hq
    rcases hq with rfl | rfl | rfl | rfl
    · rfl
    · exact absurd (mem_column (j := 2) (h := inb_S2048x4_S2048x1_0_2) hm) (by decide)
    · exact absurd (mem_column (j := 1) (h := inb_S2048x4_S2048x1_0_1) hm) (by decide)
    · exact absurd (mem_column (j := 0) (h := inb_S2048x4_S2048x1_0_0) hm) (by decide)

end

end Cert.KernelIdeal.MoeRing

end
-- ==== Proof.KernelIdeal.Value.lean ====
module

public import proofs.«01_k».proof.Proof.KernelIdeal.Weights

/-!
A device's block of the result, over the extended reals, at an index: the sum over all devices and all their experts of the
token's weighted row times the expert's matrix.
-/

@[expose] public section

set_option maxRecDepth 16384

noncomputable section

namespace Cert.KernelIdeal.MoeRing

open Cert.KernelIdeal Cert.KernelIdeal.Gen
open Idealize.ShloMosaic Idealize.ShloMosaic.TcCoe Idealize.ShloMosaic.ValueIdx
open Cert.Moe
open scoped BigOperators

/-! ## One device's contribution -/

/-- One expert's matrix times the weighted rows, at an index. -/
theorem scaledDot_apply (xc : FVec Ideal S128x512 .bf16) (w : FVec Ideal S128x1 .f32) (E : FVec Ideal S1x512x1024 .bf16) (r : Fin 128) (h : Fin 1024) :
    scaledDot (F := Ideal) xc w E (ix2 r h) = ∑ d : Fin 512, (xc (ix2 r d) * w (ix2 r 0)) * E (ix3 0 d h) := by
  unfold scaledDot
  refine (Ideal.matmul_constant_zero_apply dot_S128x512_S512x1024_S128x1024_1_0_0_1_n_n none _ _ (ix2 r h)).trans ?_
  rw [← Equiv.sum_comp (contrEquiv1 dot_S128x512_S512x1024_S128x1024_1_0_0_1_n_n 512 rfl rfl).symm]
  refine Finset.sum_congr rfl fun d _ => ?_
  have hd := contrEquiv1_symm_val dot_S128x512_S512x1024_S128x1024_1_0_0_1_n_n 512 rfl rfl d
  have hl : dot_S128x512_S512x1024_S128x1024_1_0_0_1_n_n.lhsIdx (ix2 r h) ((contrEquiv1 dot_S128x512_S512x1024_S128x1024_1_0_0_1_n_n 512 rfl rfl).symm d) = ix2 r d :=
    Shape.idx_ext₂ (by unfold DotDims.lhsIdx; rfl) ((dot_S128x512_S512x1024_S128x1024_1_0_0_1_n_n.lhsIdx_val_of_single rfl _ _).trans hd)
  have hr : dot_S128x512_S512x1024_S128x1024_1_0_0_1_n_n.rhsIdx (ix2 r h) ((contrEquiv1 dot_S128x512_S512x1024_S128x1024_1_0_0_1_n_n 512 rfl rfl).symm d) = ix2 d h :=
    Shape.idx_ext₂ ((dot_S128x512_S512x1024_S128x1024_1_0_0_1_n_n.rhsIdx_val_of_single rfl _ _).trans hd) (by unfold DotDims.rhsIdx; rfl)
  rw [hl, hr]
  refine congr (congrArg _ ?_) ?_
  · show xc (ix2 r d) * broadcastTo S128x512 w broadcasts_S128x1_S128x512 (ix2 r d) = _
    refine congrArg _ (broadcastTo_apply w broadcasts_S128x1_S128x512 (ix2 r d) (ix2 r 0) fun a => ?_)
    match a with
    | ⟨0, _⟩ => rfl
    | ⟨1, _⟩ => rfl
  · refine (shapeCast_dropUnit_apply ![512, 1024] E shapeCasts_S1x512x1024_S512x1024 (ix2 d h)).trans (congrArg E ?_)
    funext a
    match a with
    | ⟨0, _⟩ => rfl
    | ⟨1, _⟩ => rfl
    | ⟨2, _⟩ => rfl

set_option backward.proofsInPublic true in
/-- The token of row `r` of half `b` of block `k`. -/
def token (k : Fin 8) (b : Bool) (r : Fin 128) : Fin 2048 := ⟨256 * k.val + base b + r.val, by
  have : base b ≤ 128 := by cases b <;> decide
  omega⟩

/-- A device's contribution to half a block, at an index. -/
theorem halfOf_apply (X : FVec Ideal S2048x512 .bf16) (W : FVec Ideal S2048x4 .f32) (E : FVec Ideal S4x512x1024 .bf16) (k : Fin 8) (b : Bool)
    (r : Fin 128) (h : Fin 1024) :
    halfOf (F := Ideal) X W E k b (ix2 r h)
      = ∑ e : Fin 4, ∑ d : Fin 512, (X (ix2 (token k b r) d) * W (ix2 (token k b r) e)) * E (ix3 e d h) := by
  have hx : ∀ d : Fin 512, rowsX (F := Ideal) X k b (ix2 r d) = X (ix2 (token k b r) d) := fun d =>
    congrArg X (Shape.idx_ext₂ (by show 256 * k.val + base b + 1 * r.val = 256 * k.val + base b + r.val; omega) (by show 0 + 1 * d.val = d.val; omega))
  have hw : ∀ e : Fin 4, colW (F := Ideal) W k b e (ix2 r 0) = W (ix2 (token k b r) e) := fun e =>
    congrArg W (Shape.idx_ext₂ (by show 256 * k.val + base b + 1 * r.val = 256 * k.val + base b + r.val; omega) (by show e.val + 1 * 0 = e.val; omega))
  have hE : ∀ (e : Fin 4) (d : Fin 512), expertW (F := Ideal) E e (ix3 0 d h) = E (ix3 e d h) := fun e d => by
    refine congrArg E (funext fun a => Fin.ext ?_)
    match a with
    | ⟨0, _⟩ => show e.val + 1 * 0 = e.val; omega
    | ⟨1, _⟩ => show 0 + 1 * d.val = d.val; omega
    | ⟨2, _⟩ => show 0 + 1 * h.val = h.val; omega
  have hd : ∀ e : Fin 4, scaledDot (F := Ideal) (shapeCast S128x512 (rowsX (F := Ideal) X k b) shapeCasts_S128x512_S128x512) (colW (F := Ideal) W k b e) (expertW (F := Ideal) E e) (ix2 r h)
      = ∑ d : Fin 512, (X (ix2 (token k b r) d) * W (ix2 (token k b r) e)) * E (ix3 e d h) := fun e => by
    rw [shapeCast_self, scaledDot_apply]
    exact Finset.sum_congr rfl fun d _ => by rw [hx, hw, hE]
  show (((Ideal.ofBits .f32 0x00000000#32 + _) + _) + _) + _ = _
  rw [hd 0, hd 1, hd 2, hd 3, Ideal.ofBits_zero_f32, zero_add, Fin.sum_univ_four]

/-! ## Around the ring -/

variable (J : Inputs Ideal)

/-- Going back one step, a device has worked on the same block as the device after it will. -/
theorem blk_frm (d : Bool) (c : Dev nD) (s : Fin 7) : blk d (frm d c) s.val = blk d c (s.val + 1) := by revert d c s; decide
theorem blk_own (d : Bool) (c : Dev nD) : blk d c 7 = c := by revert d c; decide

/-- What arrives at a device after `s` steps: the contributions of the devices it passed. -/
theorem sent_apply (d : Bool) (i : S128x1024.Idx) (s : ℕ) : ∀ (_ : s < 8) (c : Dev nD),
    sent J d s c i = ∑ j ∈ Finset.range (s + 1), half J ((frm d)^[j] c) (blk d c s) d i := by
  induction s with
  | zero => exact fun _ c => by rw [Finset.sum_range_one]; rfl
  | succ s ih =>
    intro hs c
    have h : sent J d (s + 1) c i = sent J d s (frm d c) i + half J c (blk d c (s + 1)) d i := rfl
    rw [h, ih (by omega), Finset.sum_range_succ' _ (s + 1), show blk d (frm d c) s = blk d c (s + 1) from blk_frm d c ⟨s, by omega⟩]
    rfl

set_option backward.proofsInPublic true in
/-- The devices met going backwards from `c` are all eight. -/
theorem frm_bijective (d : Bool) (c : Dev nD) : Function.Bijective fun j : Fin 8 => (frm d)^[j.val] c := by
  revert d c; decide

/-- A device's finished half: the contributions of all devices to its own block. -/
theorem total_apply (d : Bool) (c : Dev nD) (i : S128x1024.Idx) : total J d c i = ∑ q : Dev nD, half J q c d i := by
  have h : total J d c i = sent J d 7 c i := rfl
  rw [h, sent_apply J d i 7 (by omega) c, blk_own, Finset.sum_range fun j => half J ((frm d)^[j] c) c d i]
  exact (frm_bijective d c).sum_comp fun q => half J q c d i

/-- A row of a block written in pieces of 128 rows, the row's piece starting at row `o`. -/
theorem rows_apply (L : List (View.Piece (Elt Ideal) S256x1024 .f32)) (f : Vec Ideal S256x1024 .f32) (o : ℕ) (w : Vec Ideal S128x1024 .f32)
    (hin : ∀ a, (![o, 0] : Fin 2 → ℕ) a + S128x1024.size a ≤ S256x1024.size a) (hp : ⟨Rect.unit (s := S256x1024) ![o, 0] S128x1024.size hin, w⟩ ∈ L)
    (r : Fin 128) (r' : Fin 256) (hr : r'.val = o + r.val) (h : Fin 1024)
    (hu : ∀ q ∈ L, ix2 r' h ∈ q.1.set → q = ⟨Rect.unit (s := S256x1024) ![o, 0] S128x1024.size hin, w⟩) :
    (Memref.whole cc0_stg4_0).view.writes (Elt Ideal) f L (ix2 r' h) = w (ix2 r h) := by
  have he : (Rect.unit (s := S256x1024) ![o, 0] S128x1024.size hin).emb (ix2 r h) = ix2 r' h :=
    Shape.idx_ext₂ (by show o + 1 * r.val = r'.val; omega) (by show 0 + 1 * h.val = h.val; omega)
  have hw := View.read_writes_of_unique (v := (Memref.whole cc0_stg4_0).view) (f := f)
    ⟨Rect.unit (s := S256x1024) ![o, 0] S128x1024.size hin, w⟩ (ix2 r h) L hp (fun q hq hm => hu q hq (he ▸ hm))
  rw [he] at hw
  exact hw

/-- A piece of 128 rows from row `o` meets only its own rows. -/
theorem mem_rows {o : ℕ} {hin : ∀ a, (![o, 0] : Fin 2 → ℕ) a + S128x1024.size a ≤ S256x1024.size a} {r : Fin 256} {h : Fin 1024}
    (hm : ix2 r h ∈ (Rect.unit (s := S256x1024) ![o, 0] S128x1024.size hin).set) : o ≤ r.val ∧ r.val < o + 128 :=
  Rect.mem_set_unit.mp hm 0

/-- The result's rows: the first 128 are the top half, the others the bottom half. -/
theorem outOf_top (c : Dev nD) (r : Fin 256) (h : Fin 1024) (hr : r.val < 128) : outOf J c (ix2 r h) = total J false c (ix2 ⟨r.val, hr⟩ h) := by
  unfold outOf
  refine rows_apply _ _ 0 (total J false c) inb_S256x1024_S128x1024_0_0 (by simp) ⟨r.val, hr⟩ r (by show r.val = 0 + r.val; omega) h fun q hq hm => ?_
  simp only [List.mem_cons, List.not_mem_nil, or_false] at hq
  rcases hq with rfl | rfl
  · have := mem_rows (hin := inb_S256x1024_S128x1024_128_0) hm
    omega
  · rfl
theorem outOf_bottom (c : Dev nD) (r : Fin 256) (h : Fin 1024) (hr : 128 ≤ r.val) :
    outOf J c (ix2 r h) = total J true c (ix2 ⟨r.val - 128, by omega⟩ h) := by
  unfold outOf
  refine rows_apply _ _ 128 (total J true c) inb_S256x1024_S128x1024_128_0 (by simp) ⟨r.val - 128, by omega⟩ r (by show r.val = 128 + (r.val - 128); omega) h fun q hq hm => ?_
  simp only [List.mem_cons, List.not_mem_nil, or_false] at hq
  rcases hq with rfl | rfl
  · rfl
  · have := mem_rows (hin := inb_S256x1024_S128x1024_0_0) hm
    omega

set_option backward.proofsInPublic true in
/-- Token of row `r` of device `c`'s block. -/
def tokenOf (c : Fin 8) (r : Fin 256) : Fin 2048 := ⟨256 * c.val + r.val, by omega⟩

/-- A device's block of the result, at an index. -/
theorem outOf_apply (c : Dev nD) (r : Fin 256) (h : Fin 1024) :
    outOf J c (ix2 r h) = ∑ q : Dev nD, ∑ e : Fin 4, ∑ d : Fin 512,
      (J.x q (ix2 (tokenOf c r) d) * weights J q (ix2 (tokenOf c r) e)) * J.ew q (ix3 e d h) := by
  by_cases hr : r.val < 128
  · rw [outOf_top J c r h hr, total_apply]
    refine Finset.sum_congr rfl fun q _ => (halfOf_apply _ _ _ c false ⟨r.val, hr⟩ h).trans ?_
    rw [show token c false ⟨r.val, hr⟩ = tokenOf c r from Fin.ext (by show 256 * c.val + 0 + r.val = 256 * c.val + r.val; omega)]
  · rw [outOf_bottom J c r h (by omega), total_apply]
    refine Finset.sum_congr rfl fun q _ => (halfOf_apply _ _ _ c true ⟨r.val - 128, by omega⟩ h).trans ?_
    rw [show token c true ⟨r.val - 128, by omega⟩ = tokenOf c r from Fin.ext (by show 256 * c.val + 128 + (r.val - 128) = 256 * c.val + r.val; omega)]

/-- The kernel's result: where every device holds the tokens `X`, the router's weights `R` and the choices `IX`, and device
    `q` the experts `4q` to `4q + 3` of `E`, device `c`'s block is the routed mixture of its 256 tokens. -/
theorem outOf_routed (X : FVec Ideal S2048x512 .bf16) (R : FVec Ideal S512x32 .bf16) (IX : IVec S2048x2 32)
    (E : (⟨3, ![32, 512, 1024]⟩ : Shape).Idx → EReal) (hx : ∀ c, J.x c = X) (hr : ∀ c, J.rw c = R) (hi : ∀ c, J.idx c = IX)
    (he : ∀ (c : Dev nD) (e : Fin 4) (d : Fin 512) (h : Fin 1024), J.ew c (ix3 e d h) = E (ix3 (expertAt c e) d h))
    (hX : ∀ i, IsReal (X i)) (hR : ∀ i, IsReal (R i)) (e0 e1 : Fin 2048 → Fin 32)
    (h0 : ∀ t, IX (ix2 t 0) = BitVec.ofNat 32 (e0 t).val) (h1 : ∀ t, IX (ix2 t 1) = BitVec.ofNat 32 (e1 t).val)
    (c : Dev nD) (r : Fin 256) (h : Fin 1024) :
    outOf J c (ix2 r h) = routed X R E (tokenOf c r) (e0 (tokenOf c r)) (e1 (tokenOf c r)) h := by
  rw [outOf_apply, ← sum_devices X R E hX hR]
  refine Finset.sum_congr rfl fun q _ => Finset.sum_congr rfl fun e _ => Finset.sum_congr rfl fun d _ => ?_
  rw [he, hx]
  refine congrArg (fun w => X (ix2 (tokenOf c r) d) * w * _) ?_
  unfold weights
  rw [hx, hr, hi]
  exact weightsOf_apply X R IX e0 e1 h0 h1 q (tokenOf c r) e

end Cert.KernelIdeal.MoeRing

end
-- ==== Proof.KernelIdeal.Result.lean ====
module

public import proofs.«01_k».proof.Proof.KernelIdeal.Run
public import proofs.«01_k».proof.Proof.KernelIdeal.Value
public import Idealize.ShloMosaic.Lib.Pipeline.ValueKit.Geometry

/-!
What the run leaves in the result's array, and what its staged arguments are: each of the five windows is its whole array.
-/

@[expose] public section

set_option maxRecDepth 16384

noncomputable section

namespace Cert.KernelIdeal.MoeRing

open Cert.KernelIdeal Cert.KernelIdeal.Gen
open Idealize.ShloMosaic Idealize.ShloMosaic.TcCoe Idealize.ShloMosaic.ValueIdx
open Idealize.ShloMosaic.Pipeline (Dat Window)

variable {F : FTy → Type} [FloatOps F] (m : (ℓ : Loc nD τ sig) → Buf (Elt F) ℓ) (ρ : Dev nD → PrngReg)

/-- An index of the only block of each window is the same index of its array. -/
theorem emb0 (y : S2048x512.Idx) : (win0_0.blk (0 : Fin 1)).view.emb y = y :=
  funext fun a => Fin.ext (win0_0.rect_emb_val_of_index_zero (0 : Fin 1) a (by revert a; decide +kernel) y)
theorem emb1 (y : S512x32.Idx) : (win0_1.blk (0 : Fin 1)).view.emb y = y :=
  funext fun a => Fin.ext (win0_1.rect_emb_val_of_index_zero (0 : Fin 1) a (by revert a; decide +kernel) y)
theorem emb2 (y : S2048x2.Idx) : (win0_2.blk (0 : Fin 1)).view.emb y = y :=
  funext fun a => Fin.ext (win0_2.rect_emb_val_of_index_zero (0 : Fin 1) a (by revert a; decide +kernel) y)
theorem emb3 (y : S4x512x1024.Idx) : (win0_3.blk (0 : Fin 1)).view.emb y = y :=
  funext fun a => Fin.ext (win0_3.rect_emb_val_of_index_zero (0 : Fin 1) a (by revert a; decide +kernel) y)
theorem emb4 (t : Fin 1) (y : S256x1024.Idx) : (win0_4.blk t).view.emb y = y :=
  funext fun a => Fin.ext (win0_4.rect_emb_val_of_index_zero t a (by obtain rfl : t = 0 := Subsingleton.elim _ _; revert a; decide +kernel) y)

/-- The staged arguments are the argument arrays. -/
theorem inputs_x (c : Dev nD) : (inputs m).x c = m ((c : Thread nD τ).loc main_arg0) :=
  funext fun y => congrArg (m ((c : Thread nD τ).loc main_arg0)) (emb0 y)
theorem inputs_rw (c : Dev nD) : (inputs m).rw c = m ((c : Thread nD τ).loc main_arg1) :=
  funext fun y => congrArg (m ((c : Thread nD τ).loc main_arg1)) (emb1 y)
theorem inputs_idx (c : Dev nD) : (inputs m).idx c = m ((c : Thread nD τ).loc main_arg2) :=
  funext fun y => congrArg (m ((c : Thread nD τ).loc main_arg2)) (emb2 y)
theorem inputs_ew (c : Dev nD) : (inputs m).ew c = m ((c : Thread nD τ).loc main_arg3) :=
  funext fun y => congrArg (m ((c : Thread nD τ).loc main_arg3)) (emb3 y)

attribute [local irreducible] outOf in
/-- The result's array ends holding the device's block of the result. -/
theorem final_out (c : Dev nD) : finalA m ρ c (4 : Fin 5) = outOf (inputs m) c :=
  (dats m ρ 0 c).arrAt_eq_of_covers (4 : Fin 5) (outOf (inputs m) c) (by decide +kernel)
    fun t _ y => (congrArg (outOf (inputs m) c) (emb4 t y)).symm

end Cert.KernelIdeal.MoeRing

end
-- ==== Proof.Reference.lean ====
module

public import proofs.«01_k».proof.Proof.Gen.ReferenceIdeal.Read
public import proofs.«01_k».proof.Proof.Routing

/-!
What the reference computes, at an index: each token routed to the two experts its row of indices names.
-/

@[expose] public section

noncomputable section

namespace Cert.ReferenceIdeal.Routed

open Cert.ReferenceIdeal Cert.ReferenceIdeal.Gen Cert.ReferenceIdeal.Read
open Idealize.ShloMosaic Idealize.ShloMosaic.ValueIdx
open Cert.Moe
open scoped BigOperators

/-! ## Indices -/

/-- A word below 2^31 reads as the same integer. -/
theorem toInt_word (n : ℕ) (hn : n < 2 ^ 31) : (BitVec.ofNat 32 n).toInt = n := by
  have h : (BitVec.ofNat 32 n).toNat = n := by rw [BitVec.toNat_ofNat]; omega
  rw [BitVec.toInt_eq_toNat_of_lt (by omega), h]

/-- Such a word is not negative, so wrapping negative words leaves it. -/
theorem wrap_word (n : ℕ) (hn : n < 2 ^ 31) (k : BitVec 32) :
    Scalar.select (IntOp.cmpi .slt (BitVec.ofNat 32 n) 0#32) k (BitVec.ofNat 32 n) = BitVec.ofNat 32 n := by
  have h : IntOp.cmpi .slt (BitVec.ofNat 32 n) 0#32 = 0#1 := by
    show BitVec.ofBool _ = _
    rw [show (BitVec.ofNat 32 n).slt 0#32 = false from by
      rw [BitVec.slt_eq_decide, toInt_word n hn]; simp]
    rfl
  rw [h]; rfl

/-- The gather of one gate per token: the row and the column are the two start indices, clamped. -/
theorem gate_gather (x : S2048x32.Idx → EReal) (idx : IVec S2048x2 32) (t : Fin 2048) :
    Host.gather gather_S2048x32_S2048x2_S2048_n_01_n_n_01_1_11 x idx (ix1 t)
      = x (ix2 ⟨min (idx (ix2 t 0)).toInt.toNat 2047, by omega⟩ ⟨min (idx (ix2 t 1)).toInt.toNat 31, by omega⟩) := by
  unfold Host.gather
  congr 1
  funext a
  refine Fin.ext ?_
  show gather_S2048x32_S2048x2_S2048_n_01_n_n_01_1_11.start (ix1 t) idx a + gather_S2048x32_S2048x2_S2048_n_01_n_n_01_1_11.batchCoord (ix1 t) a
      + gather_S2048x32_S2048x2_S2048_n_01_n_n_01_1_11.offCoord (ix1 t) a = _
  have hm : a ∈ [(0 : Fin 2), 1] := (by decide : ∀ a : Fin 2, a ∈ [(0 : Fin 2), 1]) a
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show a ∈ gather_S2048x32_S2048x2_S2048_n_01_n_n_01_1_11.startIndexMap from hm)]
  match a with
  | ⟨0, _⟩ =>
    have hs : gather_S2048x32_S2048x2_S2048_n_01_n_n_01_1_11.siIdx (ix1 t) ⟨0, by decide⟩ = ix2 t 0 := Shape.idx_ext₂ rfl rfl
    exact congrArg (fun z => min (idx z).toInt.toNat 2047) hs
  | ⟨1, _⟩ =>
    have hs : gather_S2048x32_S2048x2_S2048_n_01_n_n_01_1_11.siIdx (ix1 t) ⟨1, by decide⟩ = ix2 t 1 := Shape.idx_ext₂ rfl rfl
    exact congrArg (fun z => min (idx z).toInt.toNat 31) hs

/-- The gather of one expert's matrix per token: the start index, clamped, picks the expert. -/
theorem expert_gather (x : S32x512x1024.Idx → EReal) (idx : IVec S2048x1 32) (t : Fin 2048) (d : Fin 512) (h : Fin 1024) :
    Host.gather gather_S32x512x1024_S2048x1_S2048x512x1024_12_0_n_n_0_1_15121024 x idx (ix3 t d h)
      = x (ix3 ⟨min (idx (ix2 t 0)).toInt.toNat 31, by omega⟩ d h) := by
  unfold Host.gather
  congr 1
  funext a
  refine Fin.ext ?_
  show gather_S32x512x1024_S2048x1_S2048x512x1024_12_0_n_n_0_1_15121024.start (ix3 t d h) idx a
      + gather_S32x512x1024_S2048x1_S2048x512x1024_12_0_n_n_0_1_15121024.batchCoord (ix3 t d h) a
      + gather_S32x512x1024_S2048x1_S2048x512x1024_12_0_n_n_0_1_15121024.offCoord (ix3 t d h) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ gather_S32x512x1024_S2048x1_S2048x512x1024_12_0_n_n_0_1_15121024.startIndexMap from List.mem_singleton.mpr rfl)]
    have hs : gather_S32x512x1024_S2048x1_S2048x512x1024_12_0_n_n_0_1_15121024.siIdx (ix3 t d h) ⟨0, by decide⟩ = ix2 t 0 := Shape.idx_ext₂ rfl rfl
    exact congrArg (fun z => min (idx z).toInt.toNat 31) hs
  | ⟨1, _⟩ =>
    unfold GatherDims.start
    rw [dif_neg (show ¬(⟨1, by decide⟩ : Fin 3) ∈ gather_S32x512x1024_S2048x1_S2048x512x1024_12_0_n_n_0_1_15121024.startIndexMap by decide)]
    show 0 + 0 + d.val = d.val
    omega
  | ⟨2, _⟩ =>
    unfold GatherDims.start
    rw [dif_neg (show ¬(⟨2, by decide⟩ : Fin 3) ∈ gather_S32x512x1024_S2048x1_S2048x512x1024_12_0_n_n_0_1_15121024.startIndexMap by decide)]
    show 0 + 0 + h.val = h.val
    omega

section
variable (X : S2048x512.Idx → EReal) (R : S512x32.Idx → EReal) (IX : IVec S2048x2 32) (E : S32x512x1024.Idx → EReal)

/-! ## The gates -/

/-- The router's scores. -/
theorem scores (t : Fin 2048) (e : Fin 32) : val_main_v2 (F := Ideal) X R (ix2 t e) = score X R t e := by
  rw [val_main_v2_apply]
  refine Finset.sum_congr rfl fun d _ => ?_
  rw [val_main_v0_apply, val_main_v1_apply]
  exact congr (congrArg _ (congrArg X (funext fun a => by match a with | ⟨0, _⟩ => rfl | ⟨1, _⟩ => rfl)))
    (congrArg R (funext fun a => by match a with | ⟨0, _⟩ => rfl | ⟨1, _⟩ => rfl))

/-- The bits of minus infinity. -/
theorem minus_infinity : Ideal.ofBits .f32 0xFF800000#32 = ⊥ := by simp [Ideal.ofBits, Ideal.ieee]

/-- Each token's greatest score. -/
theorem greatest (t : Fin 2048) : val_main_v3 (F := Ideal) X R (ix1 t) = top (score X R t) := by
  unfold val_main_v3
  have hr : S2048x32.Reduces [1] S2048 := by decide
  rw [Host.reduce_eq_fold_single (FloatOps.maximumf (F := Ideal) (φ := .f32)) _ _ reducesTo_S2048x32_S2048_d1 hr h_S_ (ix1 t)]
  unfold top
  rw [show val_main_cst (F := Ideal) (Shape.Idx.first h_S_) = (⊥ : EReal) from minus_infinity]
  refine congrArg (Finset.fold max ⊥ · Finset.univ) (funext fun k => ?_)
  refine Eq.trans ?_ (scores X R t k)
  exact congrArg (val_main_v2 (F := Ideal) X R) (funext fun a => by match a with | ⟨0, _⟩ => rfl | ⟨1, _⟩ => rfl)

/-- The exponentials. -/
theorem exponentials (t : Fin 2048) (e : Fin 32) :
    val_main_v7 (F := Ideal) X R (ix2 t e) = Ideal.exp (score X R t e - top (score X R t)) := by
  rw [val_main_v7_apply, val_main_v6_apply, val_main_v5_apply, val_main_v4_apply, scores, ← greatest X R t]
  show Ideal.exp (_ - _) = Ideal.exp (_ - _)
  exact congrArg (fun z => Ideal.exp (score X R t e - val_main_v3 (F := Ideal) X R z)) (funext fun a => by match a with | ⟨0, _⟩ => rfl)

/-- The softmax. -/
theorem gates (t : Fin 2048) (e : Fin 32) : val_main_v11 (F := Ideal) X R (ix2 t e) = gate X R t e := by
  rw [val_main_v11_apply, val_main_v10_apply, val_main_v9_apply, val_main_v8_apply, exponentials]
  show Ideal.div _ (Ideal.ofBits .f32 0x00000000#32 + _) = _
  rw [Ideal.ofBits_zero_f32, zero_add]
  unfold gate soft
  refine congrArg (Ideal.div _) (Finset.sum_congr rfl fun k _ => ?_)
  refine Eq.trans ?_ (exponentials X R t k)
  exact congrArg (val_main_v7 (F := Ideal) X R) (funext fun a => by match a with | ⟨0, _⟩ => rfl | ⟨1, _⟩ => rfl)

/-! ## The choices

`e0` and `e1` name the two experts of every token: the words in its row of indices. -/

variable (e0 e1 : Fin 2048 → Fin 32) (h0 : ∀ t, IX (ix2 t 0) = BitVec.ofNat 32 (e0 t).val) (h1 : ∀ t, IX (ix2 t 1) = BitVec.ofNat 32 (e1 t).val)

/-- The token's own position, wrapped. -/
theorem position0 (t : Fin 2048) : val_main_v21 (F := Ideal) (ix1 t) = BitVec.ofNat 32 t.val := by
  rw [val_main_v21_apply, val_main_v18_apply, val_main_v17_apply, val_main_c_apply, val_main_v16_apply]
  exact wrap_word t.val (by omega) _
theorem position1 (t : Fin 2048) : val_main_v35 (F := Ideal) (ix1 t) = BitVec.ofNat 32 t.val := by
  rw [val_main_v35_apply, val_main_v32_apply, val_main_v31_apply, val_main_c_4_apply, val_main_v16_apply]
  exact wrap_word t.val (by omega) _

include h0 in
/-- The first choice, before and after wrapping. -/
theorem first (t : Fin 2048) : val_main_v13 (F := Ideal) IX (ix1 t) = BitVec.ofNat 32 (e0 t).val := by
  rw [val_main_v13_apply, val_main_v12_apply, ← h0 t]
  exact congrArg IX (Shape.idx_ext₂ (Nat.div_one _) rfl)
include h0 in
theorem first_for_gate (t : Fin 2048) : val_main_v26 (F := Ideal) IX (ix1 t) = BitVec.ofNat 32 (e0 t).val := by
  rw [val_main_v26_apply, val_main_v23_apply, val_main_v22_apply, val_main_c_2_apply, first IX e0 h0]
  exact wrap_word _ (by omega) _
include h0 in
theorem first_for_expert (t : Fin 2048) : val_main_v51 (F := Ideal) IX (ix1 t) = BitVec.ofNat 32 (e0 t).val := by
  rw [val_main_v51_apply, val_main_v48_apply, val_main_v47_apply, val_main_c_8_apply, first IX e0 h0]
  exact wrap_word _ (by omega) _
include h1 in
/-- The second choice, before and after wrapping. -/
theorem second (t : Fin 2048) : val_main_v15 (F := Ideal) IX (ix1 t) = BitVec.ofNat 32 (e1 t).val := by
  rw [val_main_v15_apply, val_main_v14_apply, ← h1 t]
  exact congrArg IX (Shape.idx_ext₂ (Nat.div_one _) rfl)
include h1 in
theorem second_for_gate (t : Fin 2048) : val_main_v40 (F := Ideal) IX (ix1 t) = BitVec.ofNat 32 (e1 t).val := by
  rw [val_main_v40_apply, val_main_v37_apply, val_main_v36_apply, val_main_c_6_apply, second IX e1 h1]
  exact wrap_word _ (by omega) _
include h1 in
theorem second_for_expert (t : Fin 2048) : val_main_v59 (F := Ideal) IX (ix1 t) = BitVec.ofNat 32 (e1 t).val := by
  rw [val_main_v59_apply, val_main_v56_apply, val_main_v55_apply, val_main_c_10_apply, second IX e1 h1]
  exact wrap_word _ (by omega) _

/-- Two columns put side by side, read in the first and in the second. -/
theorem left_column (a b : IVec S2048x1 32) (t : Fin 2048) :
    concatenate S2048x2 1 [⟨S2048x1, a⟩, ⟨S2048x1, b⟩] concatenates_S2048x1_S2048x1_S2048x2_d1 (ix2 t 0) = a (ix2 t 0) :=
  concatenate_pair_apply_left (t := S2048x2) (s₁ := S2048x1) (s₂ := S2048x1) 1 a b concatenates_S2048x1_S2048x1_S2048x2_d1 (ix2 t 0) rfl (ix2 t 0)
    fun b => by match b with | ⟨0, _⟩ => rfl | ⟨1, _⟩ => rfl
theorem right_column (a b : IVec S2048x1 32) (t : Fin 2048) :
    concatenate S2048x2 1 [⟨S2048x1, a⟩, ⟨S2048x1, b⟩] concatenates_S2048x1_S2048x1_S2048x2_d1 (ix2 t 1) = b (ix2 t 0) :=
  concatenate_pair_apply_right (t := S2048x2) (s₁ := S2048x1) (s₂ := S2048x1) 1 a b concatenates_S2048x1_S2048x1_S2048x2_d1 (ix2 t 1) rfl rfl (ix2 t 0)
    (fun b hb => by match b with | ⟨0, _⟩ => rfl | ⟨1, _⟩ => exact absurd rfl hb) rfl

/-- A gate gathered at a token's position and an expert's number is the token's gate for the expert. -/
theorem gathered (idx : IVec S2048x2 32) (t : Fin 2048) (e : Fin 32) (hr : idx (ix2 t 0) = BitVec.ofNat 32 t.val)
    (hc : idx (ix2 t 1) = BitVec.ofNat 32 e.val) :
    Host.gather gather_S2048x32_S2048x2_S2048_n_01_n_n_01_1_11 (val_main_v11 (F := Ideal) X R) idx (ix1 t) = gate X R t e := by
  rw [gate_gather, ← gates]
  refine congrArg _ (Shape.idx_ext₂ ?_ ?_)
  · show min (idx (ix2 t 0)).toInt.toNat 2047 = t.val
    rw [hr, toInt_word _ (by omega)]; omega
  · show min (idx (ix2 t 1)).toInt.toNat 31 = e.val
    rw [hc, toInt_word _ (by omega)]; omega

include h0 in
theorem first_gate (t : Fin 2048) : val_main_v30 (F := Ideal) X R IX (ix1 t) = gate X R t (e0 t) := by
  unfold val_main_v30
  refine gathered X R _ t (e0 t) ?_ ?_
  · unfold val_main_v29
    rw [left_column, val_main_v27_apply, ← position0 t]
    exact congrArg _ (funext fun a => by match a with | ⟨0, _⟩ => rfl)
  · unfold val_main_v29
    rw [right_column, val_main_v28_apply, ← first_for_gate IX e0 h0 t]
    exact congrArg _ (funext fun a => by match a with | ⟨0, _⟩ => rfl)
include h1 in
theorem second_gate (t : Fin 2048) : val_main_v44 (F := Ideal) X R IX (ix1 t) = gate X R t (e1 t) := by
  unfold val_main_v44
  refine gathered X R _ t (e1 t) ?_ ?_
  · unfold val_main_v43
    rw [left_column, val_main_v41_apply, ← position1 t]
    exact congrArg _ (funext fun a => by match a with | ⟨0, _⟩ => rfl)
  · unfold val_main_v43
    rw [right_column, val_main_v42_apply, ← second_for_gate IX e1 h1 t]
    exact congrArg _ (funext fun a => by match a with | ⟨0, _⟩ => rfl)

/-! ## The experts' products -/

/-- An expert's matrix gathered at its number. -/
theorem gathered_expert (idx : IVec S2048x1 32) (t : Fin 2048) (e : Fin 32) (hi : idx (ix2 t 0) = BitVec.ofNat 32 e.val) (d : Fin 512) (h : Fin 1024) :
    Host.gather gather_S32x512x1024_S2048x1_S2048x512x1024_12_0_n_n_0_1_15121024 (val_main_v46 (F := Ideal) E) idx (ix3 t d h) = E (ix3 e d h) := by
  rw [expert_gather, val_main_v46_apply]
  refine congrArg E (funext fun a => ?_)
  match a with
  | ⟨0, _⟩ =>
    refine Fin.ext ?_
    show min (idx (ix2 t 0)).toInt.toNat 31 = e.val
    rw [hi, toInt_word _ (by omega)]; omega
  | ⟨1, _⟩ => rfl
  | ⟨2, _⟩ => rfl

include h0 in
theorem first_product (t : Fin 2048) (h : Fin 1024) : val_main_v54 (F := Ideal) X IX E (ix2 t h) = product X E t (e0 t) h := by
  rw [val_main_v54_apply]
  refine Finset.sum_congr rfl fun d _ => ?_
  rw [val_main_v0_apply]
  refine congr (congrArg _ (congrArg X (Shape.idx_ext₂ rfl rfl))) ?_
  rw [eq_ix3 (ridx_main_v54 (ix2 t h) d)]
  unfold val_main_v53
  refine gathered_expert E _ t (e0 t) ?_ d h
  rw [val_main_v52_apply, ← first_for_expert IX e0 h0 t]
  exact congrArg _ (funext fun a => by match a with | ⟨0, _⟩ => rfl)
include h1 in
theorem second_product (t : Fin 2048) (h : Fin 1024) : val_main_v62 (F := Ideal) X IX E (ix2 t h) = product X E t (e1 t) h := by
  rw [val_main_v62_apply]
  refine Finset.sum_congr rfl fun d _ => ?_
  rw [val_main_v0_apply]
  refine congr (congrArg _ (congrArg X (Shape.idx_ext₂ rfl rfl))) ?_
  rw [eq_ix3 (ridx_main_v62 (ix2 t h) d)]
  unfold val_main_v61
  refine gathered_expert E _ t (e1 t) ?_ d h
  rw [val_main_v60_apply, ← second_for_expert IX e1 h1 t]
  exact congrArg _ (funext fun a => by match a with | ⟨0, _⟩ => rfl)

/-! ## The result -/

include h0 h1 in
/-- The reference routes every token to the two experts its row of indices names. -/
theorem value (t : Fin 2048) (h : Fin 1024) : val_main_v71 (F := Ideal) X R IX E (ix2 t h) = routed X R E t (e0 t) (e1 t) h := by
  rw [val_main_v71_apply, val_main_v66_apply, val_main_v70_apply, val_main_v65_apply, val_main_v64_apply, val_main_v69_apply, val_main_v68_apply,
    first_product X IX E e0 h0, second_product X IX E e1 h1]
  have hp : idx_main_v64 (idx_main_v65 (ix2 t h)) = ix1 t := funext fun a => by match a with | ⟨0, _⟩ => rfl
  have hq : idx_main_v68 (idx_main_v69 (ix2 t h)) = ix1 t := funext fun a => by match a with | ⟨0, _⟩ => rfl
  rw [hp, hq, val_main_v63_apply, val_main_v67_apply, val_main_v45_apply, first_gate X R IX e0 h0, second_gate X R IX e1 h1]
  rfl

end

end Cert.ReferenceIdeal.Routed

end
-- ==== Proof.Precondition.lean ====
module

public import proofs.«01_k».proof.Pre_finite_and_routed_KernelIdeal
public import proofs.«01_k».proof.Pre_finite_and_routed_ReferenceIdeal
public import proofs.«01_k».proof.Proof.Routing
public import Idealize.ShloMosaic.Lib.ReduceAll
public import Idealize.ShloMosaic.Lib.Affine
public import Idealize.ShloMosaic.Lib.ValueIdx
public import Idealize.ShloMosaic.PureOps.Ideal

/-!
The precondition read at an index: the tokens and the router's weights are real numbers, and every choice is the word of one
of the 32 experts.
-/

@[expose] public section

noncomputable section

namespace Cert.Pre_finite_and_routed_KernelIdeal

/-- The shape relations of the precondition, on the kernel's arguments. -/
theorem facts : Facts where
  bcast_S_S2048x512 := by decide
  reducesTo_S2048x512_S_d0_1 := by decide
  h_S_ := by decide
  bcast_S_S512x32 := by decide
  reducesTo_S512x32_S_d0_1 := by decide
  bcast_S_S2048x2 := by decide

end Cert.Pre_finite_and_routed_KernelIdeal

namespace Cert.Pre_finite_and_routed_ReferenceIdeal

/-- The same on the reference's arguments. -/
theorem facts : Facts where
  bcast_S_S2048x512 := by decide
  reducesTo_S2048x512_S_d0_1 := by decide
  h_S_ := by decide
  bcast_S_S512x32 := by decide
  reducesTo_S512x32_S_d0_1 := by decide
  bcast_S_S2048x2 := by decide

end Cert.Pre_finite_and_routed_ReferenceIdeal

namespace Cert.Moe

open Idealize.ShloMosaic Idealize.ShloMosaic.ValueIdx
open Cert.Pre_finite_and_routed_KernelIdeal

/-- An extended real whose absolute value is below the infinite word is a real number. -/
theorem isReal_of_lt (a : EReal) (h : FloatOps.cmpf (F := Ideal) (φ := .bf16) CmpFPredicate.olt (FloatOps.absf (F := Ideal) (φ := .bf16) a) (FloatOps.ofBits (F := Ideal) .bf16 0x7F80#16) = 1#1) :
    IsReal a := by
  have ht : FloatOps.ofBits (F := Ideal) .bf16 0x7F80#16 = (⊤ : EReal) := by
    show Ideal.ofBits .bf16 0x7F80#16 = ⊤; simp [Ideal.ofBits, Ideal.ieee]
  rw [ht, Ideal.cmpf_def, Ideal.absf_def] at h
  have hl : max a (-a) < ⊤ := by
    by_contra hn
    have h0 : Ideal.cmp .olt (max a (-a)) (⊤ : EReal) = BitVec.ofBool (decide (max a (-a) < ⊤)) := rfl
    rw [h0, decide_eq_false hn] at h
    exact absurd h (by decide)
  induction a using EReal.rec with
  | bot => simp at hl
  | top => simp at hl
  | coe r => exact ⟨r, rfl⟩

/-- A word between 0 and 32 is the word of an expert. -/
theorem expert_of_word (w : BitVec 32) (h0 : (0#32).toInt ≤ w.toInt) (h1 : w.toInt < (32#32).toInt) : ∃ e : Fin 32, w = BitVec.ofNat 32 e.val := by
  have a0 : (0#32).toInt = 0 := by decide
  have a1 : (32#32).toInt = 32 := by decide
  rw [a0] at h0; rw [a1] at h1
  have hn : w.toNat < 32 := by
    rw [BitVec.toInt_eq_toNat_cond] at h0 h1
    have := w.isLt
    split at h0 <;> omega
  exact ⟨⟨w.toNat, hn⟩, by rw [BitVec.ofNat_toNat, BitVec.setWidth_eq]⟩

section
attribute [local instance] Cert.Pre_finite_and_routed_KernelIdeal.facts
variable (X : FVec Ideal S2048x512 .bf16) (R : FVec Ideal S512x32 .bf16) (IX : IVec S2048x2 32) (E : FVec Ideal S4x512x1024 .bf16)
  (h : fn (F := Ideal) X R IX E = fun _ => 1#1)

include h in
/-- What the precondition says, piece by piece. -/
theorem pre_reads : (∀ i, IsReal (X i)) ∧ (∀ i, IsReal (R i)) ∧ ∀ i, ∃ e : Fin 32, IX i = BitVec.ofNat 32 e.val := by
  have hs : Subsingleton S_.Idx := ⟨fun a b => funext fun k => k.elim0⟩
  have hi := fun i => congrFun h i
  dsimp only [fn] at hi
  have h0 := fun i => IntOp.andi_eq_one.mp (hi i)
  have h1 := fun i => IntOp.andi_eq_one.mp (h0 i).1
  have h2 := IntOp.andi_eq_one.mp (h1 (ix2 0 0)).1
  refine ⟨fun i => isReal_of_lt _ (Host.reduce_andi_all _ _ _ _ _ h2.1 i), fun i => isReal_of_lt _ (Host.reduce_andi_all _ _ _ _ _ h2.2 i), fun i => ?_⟩
  exact expert_of_word _ (IntOp.cmpi_sge.mp (h1 i).2) (IntOp.cmpi_slt.mp (h0 i).2)

include h in
/-- The experts every token is routed to. -/
theorem pre_experts : ∃ e0 e1 : Fin 2048 → Fin 32,
    (∀ t, IX (ix2 t 0) = BitVec.ofNat 32 (e0 t).val) ∧ ∀ t, IX (ix2 t 1) = BitVec.ofNat 32 (e1 t).val := by
  obtain ⟨_, _, hI⟩ := pre_reads X R IX E h
  choose f hf using hI
  exact ⟨fun t => f (ix2 t 0), fun t => f (ix2 t 1), fun t => hf _, fun t => hf _⟩

end

end Cert.Moe

end
-- ==== Proof.lean ====
/-
The claims of this directory: both readings of the kernel, and the reference, terminate on every device with their arguments
unchanged and every semaphore counter back at zero; and over the extended reals, on finite tokens and router weights and on
choices among the 32 experts, every device of the kernel ends with its block of the reference's result.
-/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Gen.ReferenceIdeal.Read
public import proofs.«01_k».proof.Proof.KernelIdeal.Result
public import proofs.«01_k».proof.Proof.Reference
public import proofs.«01_k».proof.Proof.Precondition

@[expose] public section

noncomputable section

namespace Cert.Proof

open Idealize.ShloMosaic Idealize.ShloMosaic.ValueIdx Idealize.SL.Sem Idealize.ShloMosaic.TcCoe

/-- The kernel over bit patterns runs, and its arguments end unchanged. -/
theorem kernel_frame : Cert.quiescent_Kernel := fun m ρ _ =>
  (θ_run Cert.Kernel.defs _ _).mono (fun r h => ⟨fun c => ⟨(h.1 c 0).trans (Cert.Kernel.MoeRing.final_in0 m ρ c), (h.1 c 1).trans (Cert.Kernel.MoeRing.final_in1 m ρ c),
      (h.1 c 2).trans (Cert.Kernel.MoeRing.final_in2 m ρ c), (h.1 c 3).trans (Cert.Kernel.MoeRing.final_in3 m ρ c)⟩, h.2⟩)
    (Cert.Kernel.MoeRing.run_main m ρ)

/-- The kernel over the extended reals runs, and its arguments end unchanged. -/
theorem kernelIdeal_frame : Cert.quiescent_KernelIdeal := fun m ρ _ =>
  (θ_run Cert.KernelIdeal.defs _ _).mono (fun r h => ⟨fun c => ⟨(h.1 c 0).trans (Cert.KernelIdeal.MoeRing.final_in0 m ρ c), (h.1 c 1).trans (Cert.KernelIdeal.MoeRing.final_in1 m ρ c),
      (h.1 c 2).trans (Cert.KernelIdeal.MoeRing.final_in2 m ρ c), (h.1 c 3).trans (Cert.KernelIdeal.MoeRing.final_in3 m ρ c)⟩, h.2⟩)
    (Cert.KernelIdeal.MoeRing.run_main m ρ)

/-- The reference runs, and its arguments end unchanged; it has no semaphore. -/
theorem referenceIdeal_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Device `c`'s block of an array of 32 experts holds its own four. -/
theorem block_expert (E : (⟨3, ![32, 512, 1024]⟩ : Shape).Idx → EReal) (c : Fin 8) (e : Fin 4) (d : Fin 512) (h : Fin 1024) :
    Layout.block ⟨3, ![4, 512, 1024]⟩ ⟨3, ![32, 512, 1024]⟩ 0 8 c E (by decide) (ix3 e d h) = E (ix3 (Cert.Moe.expertAt c e) d h) := by
  refine congrArg E (funext fun a => Fin.ext ?_)
  match a with
  | ⟨0, _⟩ => show c.val * 4 + e.val = 4 * c.val + e.val; omega
  | ⟨1, _⟩ => rfl
  | ⟨2, _⟩ => rfl

/-- Device `c`'s block of the result holds the rows of its 256 tokens. -/
theorem block_token (v : (⟨2, ![2048, 1024]⟩ : Shape).Idx → EReal) (c : Fin 8) (r : Fin 256) (h : Fin 1024) :
    Layout.block ⟨2, ![256, 1024]⟩ ⟨2, ![2048, 1024]⟩ 0 8 c v (by decide) (ix2 r h) = v (ix2 (Cert.KernelIdeal.MoeRing.tokenOf c r) h) :=
  congrArg v (Shape.idx_ext₂ (by show c.val * 256 + r.val = 256 * c.val + r.val; omega) rfl)

/-- On arguments the precondition holds of, device `c`'s block of the kernel's result is that block of the reference's. -/
theorem result_block (m : (ℓ : Loc Cert.KernelIdeal.nD Cert.KernelIdeal.τ Cert.KernelIdeal.sig) → Buf (Elt Ideal) ℓ)
    (X : FVec Ideal ⟨2, ![2048, 512]⟩ .bf16) (R : FVec Ideal ⟨2, ![512, 32]⟩ .bf16) (IX : IVec ⟨2, ![2048, 2]⟩ 32) (E : FVec Ideal ⟨3, ![32, 512, 1024]⟩ .bf16)
    (hpre : (∀ i, Cert.Moe.IsReal (X i)) ∧ (∀ i, Cert.Moe.IsReal (R i)) ∧ ∃ e0 e1 : Fin 2048 → Fin 32,
      (∀ t, IX (ix2 t 0) = BitVec.ofNat 32 (e0 t).val) ∧ ∀ t, IX (ix2 t 1) = BitVec.ofNat 32 (e1 t).val)
    (hm : ∀ c : Dev Cert.KernelIdeal.nD,
      m ((c.tc : Thread Cert.KernelIdeal.nD Cert.KernelIdeal.τ).loc Cert.KernelIdeal.main_arg0) = X
      ∧ m ((c.tc : Thread Cert.KernelIdeal.nD Cert.KernelIdeal.τ).loc Cert.KernelIdeal.main_arg1) = R
      ∧ m ((c.tc : Thread Cert.KernelIdeal.nD Cert.KernelIdeal.τ).loc Cert.KernelIdeal.main_arg2) = IX
      ∧ m ((c.tc : Thread Cert.KernelIdeal.nD Cert.KernelIdeal.τ).loc Cert.KernelIdeal.main_arg3) = Layout.block ⟨3, ![4, 512, 1024]⟩ ⟨3, ![32, 512, 1024]⟩ 0 8 c E)
    (c : Dev Cert.KernelIdeal.nD) :
    Cert.KernelIdeal.MoeRing.outOf (Cert.KernelIdeal.MoeRing.inputs m) c
      = Layout.block ⟨2, ![256, 1024]⟩ ⟨2, ![2048, 1024]⟩ 0 8 c (Cert.ReferenceIdeal.Read.val_main_v71 (F := Ideal) X R IX E) := by
  obtain ⟨hX, hR, e0, e1, h0, h1⟩ := hpre
  funext i
  obtain ⟨r, h, rfl⟩ : ∃ (r : Fin 256) (h : Fin 1024), i = ix2 r h := ⟨i 0, i 1, eq_ix2 i⟩
  refine Eq.trans ?_ (block_token (Cert.ReferenceIdeal.Read.val_main_v71 (F := Ideal) X R IX E) c r h).symm
  rw [Cert.ReferenceIdeal.Routed.value X R IX E e0 e1 h0 h1]
  refine Cert.KernelIdeal.MoeRing.outOf_routed (Cert.KernelIdeal.MoeRing.inputs m) X R IX E
    (fun c => (Cert.KernelIdeal.MoeRing.inputs_x m c).trans (hm c).1) (fun c => (Cert.KernelIdeal.MoeRing.inputs_rw m c).trans (hm c).2.1)
    (fun c => (Cert.KernelIdeal.MoeRing.inputs_idx m c).trans (hm c).2.2.1) (fun c e d h => ?_) hX hR e0 e1 h0 h1 c r h
  exact (congrFun ((Cert.KernelIdeal.MoeRing.inputs_ew m c).trans (hm c).2.2.2) (ix3 e d h)).trans (block_expert E c e d h)

/-- Over the extended reals every device of the kernel ends with its block of the reference's result. -/
theorem kernel_reference : Cert.algebraic_KernelIdeal_ReferenceIdeal_pre_finite_and_routed_KernelIdeal
    (hPre_finite_and_routed_KernelIdeal := Cert.Pre_finite_and_routed_KernelIdeal.facts) := fun m ρ m' ρ' hpre hm => by
  have h0 : (∀ i, Cert.Moe.IsReal (_ : EReal)) ∧ (∀ i, Cert.Moe.IsReal (_ : EReal)) ∧ _ :=
    ⟨(Cert.Moe.pre_reads _ _ _ _ (hpre 0)).1, (Cert.Moe.pre_reads _ _ _ _ (hpre 0)).2.1, Cert.Moe.pre_experts _ _ _ _ (hpre 0)⟩
  rw [(hm 0).1, (hm 0).2.1, (hm 0).2.2.1] at h0
  refine ⟨Cert.ReferenceIdeal.Value.res_main_v71 m' 0, ?_, ?_⟩
  · refine (θ_run Cert.KernelIdeal.defs _ _).mono (fun r h c => ⟨?_, (h.1 c 0).trans (Cert.KernelIdeal.MoeRing.final_in0 m ρ c),
      (h.1 c 1).trans (Cert.KernelIdeal.MoeRing.final_in1 m ρ c), (h.1 c 2).trans (Cert.KernelIdeal.MoeRing.final_in2 m ρ c),
      (h.1 c 3).trans (Cert.KernelIdeal.MoeRing.final_in3 m ρ c)⟩) (Cert.KernelIdeal.MoeRing.run_main m ρ)
    rw [Cert.ReferenceIdeal.Read.val_main_v71_eq]
    exact (h.1 c 4).trans ((Cert.KernelIdeal.MoeRing.final_out m ρ c).trans (result_block m _ _ _ _ h0 hm c))
  · exact (θ_run Cert.ReferenceIdeal.defs _ _).mono (fun r h => h 0) (Cert.ReferenceIdeal.Value.run m' ρ')

theorem claim : Cert.Claim :=
  ⟨Cert.Kernel.Gen.facts, Cert.KernelIdeal.Gen.facts, Cert.ReferenceIdeal.Gen.facts,
    Cert.Pre_finite_and_routed_KernelIdeal.facts, Cert.Pre_finite_and_routed_ReferenceIdeal.facts,
    kernel_frame, kernelIdeal_frame, fun m ρ _ => kernelIdeal_frame m ρ trivial, referenceIdeal_frame, fun m ρ _ => referenceIdeal_frame m ρ trivial,
    trivial, kernel_reference⟩

end Cert.Proof

end
